-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S4 : Shape := ⟨1, ![4]⟩
abbrev S_ : Shape := ⟨0, ![]⟩
abbrev S1 : Shape := ⟨1, ![1]⟩
abbrev S64x256 : Shape := ⟨2, ![64, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .local _ .vmem, ⟨0, _⟩ => ⟨S256x256, .f32⟩
  | .local _ .vmem, ⟨1, _⟩ => ⟨S256x512, .f32⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_12 : BitVec 32 := 0#32
  let v17 : BitVec 1 := Scalar.cmpi .eq v5 c0_i32_12
  let v18 : BitVec 32 := Scalar.extui v17
  let c0_i32_13 : BitVec 32 := 0#32
  let v19 : BitVec 1 := Scalar.cmpi .ne v18 c0_i32_13
  v19

def k0_dev3 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v23 : BitVec 32 := Scalar.muli v6 c2_i32_18
  let v24 : BitVec 32 := Scalar.addi c0_i32_19 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v25 : BitVec 32 := Scalar.muli v5 c1_i32_20
  let v26 : BitVec 32 := Scalar.addi v24 v25
  v26.toNat
def k0_dev4 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v33 : BitVec 32 := Scalar.muli v6 c2_i32_27
  let v34 : BitVec 32 := Scalar.addi c0_i32_28 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v35 : BitVec 32 := Scalar.muli v5 c1_i32_29
  let v36 : BitVec 32 := Scalar.addi v34 v35
  v36.toNat
def k0_dev5 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v43 : BitVec 32 := Scalar.muli v6 c2_i32_35
  let v44 : BitVec 32 := Scalar.addi c0_i32_36 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v45 : BitVec 32 := Scalar.muli v5 c1_i32_37
  let v46 : BitVec 32 := Scalar.addi v44 v45
  v46.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v53 : BitVec 32 := Scalar.muli v6 c2_i32_42
  let v54 : BitVec 32 := Scalar.addi c0_i32_43 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v55 : BitVec 32 := Scalar.muli v5 c1_i32_44
  let v56 : BitVec 32 := Scalar.addi v54 v55
  v56.toNat
def k0_dev7 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v76 : BitVec 32 := Scalar.muli v2 c2_i32_64
  let v77 : BitVec 32 := Scalar.addi c0_i32_65 v76
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_66 : BitVec 32 := 1#32
  let v78 : BitVec 32 := Scalar.muli v7 c1_i32_66
  let v79 : BitVec 32 := Scalar.addi v77 v78
  v79.toNat
def k0_dev8 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v99 : BitVec 32 := Scalar.muli v2 c2_i32_87
  let v100 : BitVec 32 := Scalar.addi c0_i32_88 v99
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_89 : BitVec 32 := 1#32
  let v101 : BitVec 32 := Scalar.muli v7 c1_i32_89
  let v102 : BitVec 32 := Scalar.addi v100 v101
  v102.toNat
def k0_dev9 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v122 : BitVec 32 := Scalar.muli v2 c2_i32_110
  let v123 : BitVec 32 := Scalar.addi c0_i32_111 v122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_112 : BitVec 32 := 1#32
  let v124 : BitVec 32 := Scalar.muli v7 c1_i32_112
  let v125 : BitVec 32 := Scalar.addi v123 v124
  v125.toNat
def k0_dev10 (d0 : Dev nD) : Nat :=
  let c0_i32_134 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_133 : BitVec 32 := 2#32
  let v145 : BitVec 32 := Scalar.muli v2 c2_i32_133
  let v146 : BitVec 32 := Scalar.addi c0_i32_134 v145
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_135 : BitVec 32 := 1#32
  let v147 : BitVec 32 := Scalar.muli v7 c1_i32_135
  let v148 : BitVec 32 := Scalar.addi v146 v147
  v148.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v20 : BitVec 1 := Scalar.cmpi .eq v5 c1_i32_14
  let v21 : BitVec 32 := Scalar.extui v20
  let c0_i32_15 : BitVec 32 := 0#32
  let v22 : BitVec 1 := Scalar.cmpi .ne v21 c0_i32_15
  v22

def k0_dev11 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v23 : BitVec 32 := Scalar.muli v6 c2_i32_18
  let v24 : BitVec 32 := Scalar.addi c0_i32_19 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v25 : BitVec 32 := Scalar.muli v5 c1_i32_20
  let v26 : BitVec 32 := Scalar.addi v24 v25
  v26.toNat
def k0_dev12 (d0 : Dev nD) : Nat :=
  let c0_i32_28 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_27 : BitVec 32 := 2#32
  let v33 : BitVec 32 := Scalar.muli v6 c2_i32_27
  let v34 : BitVec 32 := Scalar.addi c0_i32_28 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_29 : BitVec 32 := 1#32
  let v35 : BitVec 32 := Scalar.muli v5 c1_i32_29
  let v36 : BitVec 32 := Scalar.addi v34 v35
  v36.toNat
def k0_dev13 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v43 : BitVec 32 := Scalar.muli v6 c2_i32_35
  let v44 : BitVec 32 := Scalar.addi c0_i32_36 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v45 : BitVec 32 := Scalar.muli v5 c1_i32_37
  let v46 : BitVec 32 := Scalar.addi v44 v45
  v46.toNat
def k0_dev14 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v53 : BitVec 32 := Scalar.muli v6 c2_i32_42
  let v54 : BitVec 32 := Scalar.addi c0_i32_43 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v55 : BitVec 32 := Scalar.muli v5 c1_i32_44
  let v56 : BitVec 32 := Scalar.addi v54 v55
  v56.toNat
def k0_dev15 (d0 : Dev nD) : Nat :=
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_63 : BitVec 32 := 2#32
  let v76 : BitVec 32 := Scalar.muli v2 c2_i32_63
  let v77 : BitVec 32 := Scalar.addi c0_i32_64 v76
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_65 : BitVec 32 := 1#32
  let v78 : BitVec 32 := Scalar.muli v7 c1_i32_65
  let v79 : BitVec 32 := Scalar.addi v77 v78
  v79.toNat
def k0_dev16 (d0 : Dev nD) : Nat :=
  let c0_i32_86 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_85 : BitVec 32 := 2#32
  let v99 : BitVec 32 := Scalar.muli v2 c2_i32_85
  let v100 : BitVec 32 := Scalar.addi c0_i32_86 v99
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_87 : BitVec 32 := 1#32
  let v101 : BitVec 32 := Scalar.muli v7 c1_i32_87
  let v102 : BitVec 32 := Scalar.addi v100 v101
  v102.toNat
def k0_dev17 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v122 : BitVec 32 := Scalar.muli v2 c2_i32_108
  let v123 : BitVec 32 := Scalar.addi c0_i32_109 v122
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_110 : BitVec 32 := 1#32
  let v124 : BitVec 32 := Scalar.muli v7 c1_i32_110
  let v125 : BitVec 32 := Scalar.addi v123 v124
  v125.toNat
def k0_dev18 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v145 : BitVec 32 := Scalar.muli v2 c2_i32_131
  let v146 : BitVec 32 := Scalar.addi c0_i32_132 v145
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_133 : BitVec 32 := 1#32
  let v147 : BitVec 32 := Scalar.muli v7 c1_i32_133
  let v148 : BitVec 32 := Scalar.addi v146 v147
  v148.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩
abbrev S2x256x512 : Shape := ⟨3, ![2, 256, 512]⟩
abbrev S_ : Shape := ⟨0, ![]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S2x256x512, .f32⟩
  | .hbm, ⟨2, _⟩ => ⟨S_, .f32⟩
  | .hbm, ⟨3, _⟩ => ⟨S256x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Pieces.lean ====
/-
The mesh, the buffers' pieces and what each holds.

Four devices in a 2 × 2 mesh; device `c` sits at (c / 2, c % 2).  `xp c` is the device with the
other first coordinate, `yp c` the one with the other second coordinate.  Each device's 256 × 256
block is handled in four row pieces of 64 rows, and the 256 × 512 result in eight: two column halves of
four row pieces each.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duty names are booleans; the second component beside the pipeline library's. -/
abbrev UC : Type := URounds (GSem nD τ sig) Bool
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UC (MT nD τ sig Unit (Elt F) ℕ UU ℕ) := embR

variable (m : (ℓ : Loc nD τ sig) → Buf (Elt F) ℓ) (ρ : Dev nD → PrngReg)

/-! ## The mesh -/

/-- The device with the other first coordinate. -/
def xp (c : Dev nD) : Dev nD := Fin.ofNat 4 (c.val + 2)
/-- A device's second coordinate: which column half of the result it makes. -/
def my (c : Dev nD) : Fin 2 := Fin.ofNat 2 c.val
/-- The other column half. -/
def ot (h : Fin 2) : Fin 2 := Fin.ofNat 2 (h.val + 1)
/-- The device of `c`'s row (same first coordinate) with second coordinate `h`. -/
def rowDev (c : Dev nD) (h : Fin 2) : Dev nD := Fin.ofNat 4 (2 * (c.val / 2) + h.val)
/-- The device with the other second coordinate. -/
def yp (c : Dev nD) : Dev nD := rowDev c (ot (my c))

theorem xp_xp (c : Dev nD) : xp (xp c) = c := by revert c; decide
theorem yp_yp (c : Dev nD) : yp (yp c) = c := by revert c; decide
theorem xp_ne_yp (c : Dev nD) : xp c ≠ yp c := by revert c; decide
theorem my_yp (c : Dev nD) : my (yp c) = ot (my c) := by revert c; decide
theorem ot_ot (h : Fin 2) : ot (ot h) = h := by revert h; decide
theorem rowDev_my (c : Dev nD) : rowDev c (my c) = c := by revert c; decide
theorem rowDev_yp (c : Dev nD) (h : Fin 2) : rowDev (yp c) h = rowDev c h := by revert c h; decide

/-- Exchanging first coordinates is a permutation of the devices, its own inverse; -/
def xsw : Dev nD ≃ Dev nD := ⟨xp, xp, xp_xp, xp_xp⟩
/-- so is exchanging second coordinates. -/
def ysw : Dev nD ≃ Dev nD := ⟨yp, yp, yp_yp, yp_yp⟩

/-! ## The memrefs -/

/-- The staged block, the staged result, the landing buffer. -/
abbrev xM : Memref sig .tc .vmem S256x256 .f32 := Memref.whole cc0_stg0_0
abbrev oM : Memref sig .tc .vmem S256x512 .f32 := Memref.whole cc0_stg1_0
abbrev cM : Memref sig .tc .vmem S256x256 .f32 := Memref.whole cc0_scratch0

theorem inbX (k : Fin 4) : ∀ a, (![64 * k.val, 0] : Fin 2 → Nat) a + S64x256.size a ≤ S256x256.size a := by
  revert k; decide
theorem inbO (h : Fin 2) (k : Fin 4) : ∀ a, (![64 * k.val, 256 * h.val] : Fin 2 → Nat) a + S64x256.size a ≤ S256x512.size a := by
  revert h k; decide
theorem inbS (k : Fin 4) : ∀ a, (![k.val] : Fin 1 → Nat) a + S1.size a ≤ S4.size a := by
  revert k; decide

/-- Rows `64 k` to `64 k + 63` of a block; -/
abbrev rX (k : Fin 4) : Rect S256x256 := Rect.unit (s := S256x256) ![64 * k.val, 0] S64x256.size (inbX k)
/-- those rows of column half `h` of the result. -/
abbrev rO (h : Fin 2) (k : Fin 4) : Rect S256x512 := Rect.unit (s := S256x512) ![64 * k.val, 256 * h.val] S64x256.size (inbO h k)

abbrev xP (k : Fin 4) : Memref sig .tc .vmem S64x256 .f32 := xM.slice (rX k) (fun _ => rfl)
abbrev cP (k : Fin 4) : Memref sig .tc .vmem S64x256 .f32 := cM.slice (rX k) (fun _ => rfl)
abbrev oP (h : Fin 2) (k : Fin 4) : Memref sig .tc .vmem S64x256 .f32 := oM.slice (rO h k) (fun _ => rfl)

/-- The elements of a block in row piece `k`: rows `64 k` on, 64 of them. -/
theorem mem_rX (k : Fin 4) (i : S256x256.Idx) : i ∈ (rX k).set ↔ 64 * k.val ≤ (i 0).val ∧ (i 0).val < 64 * k.val + 64 := by
  have h1 : (i 1).val < 256 := (i 1).isLt
  rw [LoadRect.mem_set]
  constructor
  · intro hi
    obtain ⟨j, hj, e⟩ := hi 0
    have hj' : j < 64 := hj
    have e' : (i 0).val = 64 * k.val + 1 * j := e
    omega
  · rintro ⟨ha, hb⟩ a
    fin_cases a
    · exact ⟨(i 0).val - 64 * k.val, by show _ < 64; omega, by show (i 0).val = 64 * k.val + 1 * _; omega⟩
    · exact ⟨(i 1).val, h1, by show (i 1).val = 0 + 1 * _; omega⟩

/-- The elements of the result in row piece `k` of column half `h`. -/
theorem mem_rO (h : Fin 2) (k : Fin 4) (i : S256x512.Idx) : i ∈ (rO h k).set ↔
    (64 * k.val ≤ (i 0).val ∧ (i 0).val < 64 * k.val + 64) ∧ 256 * h.val ≤ (i 1).val ∧ (i 1).val < 256 * h.val + 256 := by
  rw [LoadRect.mem_set]
  constructor
  · intro hi
    obtain ⟨j, hj, e⟩ := hi 0
    obtain ⟨l, hl, e2⟩ := hi 1
    have hj' : j < 64 := hj
    have e' : (i 0).val = 64 * k.val + 1 * j := e
    have hl' : l < 256 := hl
    have e2' : (i 1).val = 256 * h.val + 1 * l := e2
    omega
  · rintro ⟨⟨ha, hb⟩, hc, hd⟩ a
    fin_cases a
    · exact ⟨(i 0).val - 64 * k.val, by show _ < 64; omega, by show (i 0).val = 64 * k.val + 1 * _; omega⟩
    · exact ⟨(i 1).val - 256 * h.val, by show _ < 256; omega, by show (i 1).val = 256 * h.val + 1 * _; omega⟩

theorem rX_disjoint (k k' : Fin 4) (hk : k ≠ k') : Disjoint (rX k).set (rX k').set :=
  Finset.disjoint_left.mpr fun i hi hi' => hk (Fin.ext (by rw [mem_rX] at hi hi'; omega))

theorem rX_cover : (Finset.univ : Finset (Fin 4)).biUnion (fun k => (rX k).set) = Finset.univ := by
  refine Finset.eq_univ_of_forall fun i => Finset.mem_biUnion.mpr ?_
  have h0 : (i 0).val < 256 := (i 0).isLt
  exact ⟨⟨(i 0).val / 64, by omega⟩, Finset.mem_univ _, (mem_rX _ i).mpr (by dsimp only; omega)⟩

theorem rO_disjoint (b b' : Fin 2 × Fin 4) (hb : b ≠ b') : Disjoint (rO b.1 b.2).set (rO b'.1 b'.2).set :=
  Finset.disjoint_left.mpr fun i hi hi' => hb (by
    rw [mem_rO] at hi hi'
    exact Prod.ext (Fin.ext (by omega)) (Fin.ext (by omega)))

theorem rO_cover : (Finset.univ : Finset (Fin 2 × Fin 4)).biUnion (fun b => (rO b.1 b.2).set) = Finset.univ := by
  refine Finset.eq_univ_of_forall fun i => Finset.mem_biUnion.mpr ?_
  have h0 : (i 0).val < 256 := (i 0).isLt
  have h1 : (i 1).val < 512 := (i 1).isLt
  exact ⟨(⟨(i 1).val / 256, by omega⟩, ⟨(i 0).val / 64, by omega⟩), Finset.mem_univ _, (mem_rO _ _ i).mpr (by dsimp only; omega)⟩

/-! ## The contents -/

/-- Device `c`'s block as its body finds it staged. -/
def xAt (c : Dev nD) : (cc0_stg0_0 : Ref sig .tc).ty.Contents (Elt F) :=
  (win0_0.blk (0 : Fin 1)).view.read (Elt F) (m ((c : Thread nD τ).loc main_arg0))

/-- The column half an element of the result is in, and its place in the block of that half. -/
def halfOf (i : S256x512.Idx) : Fin 2 := ⟨(i 1).val / 256, by have : (i 1).val < 512 := (i 1).isLt; omega⟩
def inHalf (i : S256x512.Idx) : S256x256.Idx :=
  fun a => match a with
    | ⟨0, _⟩ => ⟨(i 0).val, (i 0).isLt⟩
    | ⟨1, _⟩ => ⟨(i 1).val % 256, Nat.mod_lt _ (by decide)⟩

/-- The sum device `d` forms: its block plus the block of the device with the other first coordinate. -/
def sumAt (d : Dev nD) (j : S256x256.Idx) : Elt F .f32 := FloatOps.addf (F := F) (xAt m d j) (xAt m (xp d) j)

/-- The result on device `c`: each column half is the sum formed by the device of `c`'s row that makes that half. -/
def outAt (c : Dev nD) : (cc0_stg1_0 : Ref sig .tc).ty.Contents (Elt F) :=
  fun i => sumAt m (rowDev c (halfOf i)) (inHalf i)

/-- Both devices of a row end with the same result. -/
theorem outAt_yp (c : Dev nD) : outAt m (yp c) = outAt m c := by
  funext i; unfold outAt; rw [rowDev_yp]

end Cert.TwoStep

end
-- ==== Proof.Schedule.lean ====
/-
The cells and what each one's round hands over; what each device owes at launch and the levels that
order the waits.

Per device: the barrier cell and sixteen transfer cells, named by what they count (`0` the sends of the
first step, `1` its arrivals, `2` the sends of the second step, `3` its arrivals) and by row piece.
-/
module

public import proofs.«01_k».proof.Proof.Pieces

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

abbrev barS : Sem sig := (SemArray.scalar (sig.barrier 0 rfl) : Sems sig S_).sem

/-- The kernel's four semaphore arrays: first step's sends and arrivals, second step's sends and arrivals. -/
def sems (j : Fin 4) : DmaSems sig S4 := match j with
  | 0 => cc0_scratch1 | 1 => cc0_scratch2 | 2 => cc0_scratch3 | 3 => cc0_scratch4

/-- The semaphore of array `j` at row piece `k`, as the kernel takes it. -/
abbrev dsem (j k : Fin 4) : DmaSem sig :=
  (((sems j).slice (Rect.unit (s := S4) ![k.val] S1.size (inbS k))).squeeze S_ squeezes_S1_S_).sem

/-- The array and the row piece of a transfer semaphore, from its number. -/
def jOf (s : DmaSem sig) : Fin 4 := Fin.ofNat 4 ((s.val - 2) / 4)
def kOf (s : DmaSem sig) : Fin 4 := Fin.ofNat 4 ((s.val - 2) % 4)

theorem dsem_val (j k : Fin 4) : (dsem j k).val = 2 + (4 * j.val + k.val) := by revert j k; decide
theorem jOf_dsem (j k : Fin 4) : jOf (dsem j k) = j := by
  unfold jOf; rw [dsem_val]; exact Fin.ext (by show _ % 4 = _; omega)
theorem kOf_dsem (j k : Fin 4) : kOf (dsem j k) = k := by
  unfold kOf; rw [dsem_val]; exact Fin.ext (by show _ % 4 = _; omega)
theorem dsem_ge (j k : Fin 4) : 2 ≤ (dsem j k).val := by rw [dsem_val]; omega
theorem dsem_inj {j k j' k' : Fin 4} (h : dsem j k = dsem j' k') : j = j' ∧ k = k' :=
  ⟨by rw [← jOf_dsem j k, h, jOf_dsem], by rw [← kOf_dsem j k, h, kOf_dsem]⟩

abbrev barCell (c : Dev nD) : GSem nD τ sig := ((c : Thread nD τ), .reg barS)
abbrev xCell (c : Dev nD) (j k : Fin 4) : GSem nD τ sig := ((c : Thread nD τ), .dma (dsem j k))

/-- A device's cells by name: `none` the barrier cell, `some (j, k)` a transfer cell. -/
abbrev csem : Option (Fin 4 × Fin 4) → SemLoc sig
  | none => .reg barS
  | some i => .dma (dsem i.1 i.2)
abbrev kcell (ci : Dev nD × Option (Fin 4 × Fin 4)) : GSem nD τ sig := ((ci.1 : Thread nD τ), csem ci.2)

/-- What one row piece's transfer adds to each of its two cells. -/
def N : ℕ := (xP 0).view.dmaCredit
theorem N_pos : 0 < N := View.dmaCredit_pos _ (by decide)
theorem credit_x (k : Fin 4) : (xP k).view.dmaCredit = N := rfl
theorem credit_c (k : Fin 4) : (cP k).view.dmaCredit = N := rfl
theorem credit_o (h : Fin 2) (k : Fin 4) : (oP h k).view.dmaCredit = N := rfl

/-! ## The pieces held -/

/-- Row piece `k` of device `c`'s staged block, at share `q`, holding what was fetched. -/
def xHeld (q : PosShare TreeShare) (c : Dev nD) (k : Fin 4) : sProp 𝕄 :=
  (xP k).view.loc (c : Thread nD τ) ↦[(xP k).view.set]{q} xAt m c
/-- Row piece `k` of device `c`'s landing buffer, holding `f`'s elements. -/
def cHeld (c : Dev nD) (k : Fin 4) (f : Buf (Elt F) ((c : Thread nD τ).loc cc0_scratch0)) : sProp 𝕄 :=
  (cP k).view.loc (c : Thread nD τ) ↦[(cP k).view.set]{fullShare} f
/-- Row piece `k` of column half `h` of device `c`'s staged result, holding `f`'s elements. -/
def oHeld (c : Dev nD) (h : Fin 2) (k : Fin 4) (f : Buf (Elt F) ((c : Thread nD τ).loc cc0_stg1_0)) : sProp 𝕄 :=
  (oP h k).view.loc (c : Thread nD τ) ↦[(oP h k).view.set]{fullShare} f

instance xHeld_storable (q : PosShare TreeShare) (c : Dev nD) (k : Fin 4) :
    BI.Storable (upEmb : UEmb _ 𝕄) (xHeld (F := F) m q c k) := by unfold xHeld; infer_instance
instance cHeld_storable (c : Dev nD) (k : Fin 4) (f) :
    BI.Storable (upEmb : UEmb _ 𝕄) (cHeld (F := F) c k f) := by unfold cHeld; infer_instance
instance oHeld_storable (c : Dev nD) (h : Fin 2) (k : Fin 4) (f) :
    BI.Storable (upEmb : UEmb _ 𝕄) (oHeld (F := F) c h k f) := by unfold oHeld; infer_instance

theorem set_xP (k : Fin 4) : (xP k).view.set = (rX k).set := View.set_slice_whole _ _
theorem set_cP (k : Fin 4) : (cP k).view.set = (rX k).set := View.set_slice_whole _ _
theorem set_oP (h : Fin 2) (k : Fin 4) : (oP h k).view.set = (rO h k).set := View.set_slice_whole _ _

theorem xHeld_eq (q : PosShare TreeShare) (c : Dev nD) (k : Fin 4) :
    (xHeld (F := F) m q c k : sProp 𝕄) = iprop(((c : Thread nD τ).loc cc0_stg0_0) ↦[(rX k).set]{q} xAt m c) := by
  unfold xHeld; rw [set_xP]
theorem cHeld_eq (c : Dev nD) (k : Fin 4) (f : Buf (Elt F) ((c : Thread nD τ).loc cc0_scratch0)) :
    (cHeld c k f : sProp 𝕄) = iprop(((c : Thread nD τ).loc cc0_scratch0) ↦[(rX k).set]{fullShare} f) := by
  unfold cHeld; rw [set_cP]
theorem oHeld_eq (c : Dev nD) (h : Fin 2) (k : Fin 4) (f : Buf (Elt F) ((c : Thread nD τ).loc cc0_stg1_0)) :
    (oHeld c h k f : sProp 𝕄) = iprop(((c : Thread nD τ).loc cc0_stg1_0) ↦[(rO h k).set]{fullShare} f) := by
  unfold oHeld; rw [set_oP]

/-- A whole landing buffer is its four row pieces. -/
theorem cWhole (c : Dev nD) (f : Buf (Elt F) ((c : Thread nD τ).loc cc0_scratch0)) :
    ((((c : Thread nD τ).loc cc0_scratch0) ↦{fullShare} f) : sProp 𝕄) = bigSep Finset.univ fun k => cHeld c k f := by
  simp only [cHeld_eq]
  exact Ring.pointsTo_blocks (ℓ := (c : Thread nD τ).loc cc0_scratch0) (fun k : Fin 4 => (rX k).set) rX_disjoint rX_cover f

/-- A whole staged block is its four row pieces, each in two half shares. -/
theorem xWhole (c : Dev nD) :
    ((((c : Thread nD τ).loc cc0_stg0_0) ↦{fullShare} xAt m c) : sProp 𝕄)
      = bigSep Finset.univ fun k => iprop(xHeld m fullShare.left c k ∗ xHeld m fullShare.right c k) := by
  simp only [xHeld_eq]
  refine (Ring.pointsTo_blocks (ℓ := (c : Thread nD τ).loc cc0_stg0_0) (fun k : Fin 4 => (rX k).set) rX_disjoint rX_cover
    (xAt m c)).trans (bigSep_congr fun k _ => ?_)
  have h := pointsTo_share (Ix := Unit) (Val := Elt F) (Name := ℕ) (U := UU) (Lvl := ℕ)
    (ℓ := (c : Thread nD τ).loc cc0_stg0_0) (I := (rX k).set) (f := xAt m c) (PosShare.mem_left_op_right fullShare)
  exact BI.equiv_iff.mp ⟨h.1, h.2⟩

/-- A whole staged result is its eight pieces, the half `h`'s four and the other's. -/
theorem oWhole (c : Dev nD) (h : Fin 2) (f : Buf (Elt F) ((c : Thread nD τ).loc cc0_stg1_0)) :
    ((((c : Thread nD τ).loc cc0_stg1_0) ↦{fullShare} f) : sProp 𝕄)
      = iprop((bigSep Finset.univ fun k => oHeld c h k f) ∗ bigSep Finset.univ fun k => oHeld c (ot h) k f) := by
  have e : ((((c : Thread nD τ).loc cc0_stg1_0) ↦{fullShare} f) : sProp 𝕄)
      = iprop((bigSep Finset.univ fun k => oHeld c 0 k f) ∗ bigSep Finset.univ fun k => oHeld c 1 k f) := by
    simp only [oHeld_eq]
    refine (Ring.pointsTo_blocks (ℓ := (c : Thread nD τ).loc cc0_stg1_0) (fun b : Fin 2 × Fin 4 => (rO b.1 b.2).set)
      rO_disjoint rO_cover f).trans ?_
    rw [bigSep_univ_prod, bigSep_fin_two]
    rfl
  rw [e]
  have hh : h = 0 ∨ h = 1 := by omega
  rcases hh with rfl | rfl
  · rfl
  · show _ = iprop(_ ∗ bigSep Finset.univ fun k => oHeld c 0 k f)
    exact BI.equiv_iff.mp ⟨BI.sep_comm, BI.sep_comm⟩

/-! ## The schedule -/

/-- What device `c` gets from `xp c`'s signal: `xp c`'s landing buffer, at any contents. -/
def xPay (c : Dev nD) : sProp 𝕄 :=
  iprop(∃ f : Buf (Elt F) ((xp c : Thread nD τ).loc cc0_scratch0), bigSep Finset.univ fun k => cHeld (xp c) k f)
/-- What device `c` gets from `yp c`'s signal: the column half `c` makes, of `yp c`'s staged result, at any contents. -/
def yPay (c : Dev nD) : sProp 𝕄 :=
  iprop(∃ f : Buf (Elt F) ((yp c : Thread nD τ).loc cc0_stg1_0), bigSep Finset.univ fun k => oHeld (yp c) (my c) k f)

/-- What the round of device `c`'s transfer cell `(j, k)` hands over: a send returns what it read, an arrival brings what
    was sent. -/
def xferPay (c : Dev nD) (j k : Fin 4) : sProp 𝕄 := match j with
  | 0 => xHeld m fullShare.left c k
  | 1 => cHeld c k (xAt m (xp c))
  | 2 => oHeld c (my c) k (outAt m c)
  | 3 => oHeld c (ot (my c)) k (outAt m c)

/-- One round per cell: a barrier cell is signalled one unit by each of the two neighbours (`false` by `xp c`, `true` by
    `yp c`), a transfer cell once by its transfer. -/
def rd : Rounds.Schedule (GSem nD τ sig) Bool 𝕄 where
  duties g r := if r = 0 ∧ g.1.2 = .tc then (match g.2 with
    | .reg _ => Finset.univ
    | .dma s => if 2 ≤ s.val then {false} else ∅) else ∅
  unitless _ := False
  amount g _ _ := match g.2 with
    | .reg _ => 1
    | .dma _ => N
  payload g _ d := match g.2 with
    | .reg _ => if d then yPay g.1.1 else xPay g.1.1
    | .dma s => xferPay m g.1.1 (jOf s) (kOf s)
  amount_pos g _ _ _ := by
    rcases g with ⟨t, s | s⟩
    · exact Nat.one_pos
    · exact N_pos

instance rd_payload_storable (g : GSem nD τ sig) (r : ℕ) (d : Bool) :
    BI.Storable (upEmb : UEmb _ 𝕄) ((rd (F := F) m).payload g r d) := by
  rcases g with ⟨t, s | s⟩
  · show BI.Storable upEmb (if d then yPay t.1 else xPay t.1)
    unfold yPay xPay
    split <;> infer_instance
  · show BI.Storable upEmb (xferPay m t.1 (jOf s) (kOf s))
    unfold xferPay
    split <;> infer_instance

section Tables
variable (c : Dev nD) (j k : Fin 4)

theorem duties_bar : (rd (F := F) m).duties (barCell c) 0 = Finset.univ := rfl
theorem duties_x : (rd (F := F) m).duties (xCell c j k) 0 = {false} := by
  show (if 2 ≤ (dsem j k).val then ({false} : Finset Bool) else ∅) = _
  exact if_pos (dsem_ge j k)
theorem duties_later (g : GSem nD τ sig) (r : ℕ) (hr : 1 ≤ r) : (rd (F := F) m).duties g r = ∅ :=
  if_neg fun h => by omega

theorem amount_bar (d : Bool) : (rd (F := F) m).amount (barCell c) 0 d = 1 := rfl
theorem amount_x (d : Bool) : (rd (F := F) m).amount (xCell c j k) 0 d = N := rfl

theorem expect_bar : (rd (F := F) m).expect (barCell c) 0 = 2 := by
  unfold Schedule.expect Schedule.amountOf; rw [duties_bar]; rfl
theorem expect_x : (rd (F := F) m).expect (xCell c j k) 0 = N := by
  unfold Schedule.expect Schedule.amountOf; rw [duties_x, Finset.sum_singleton, amount_x]

theorem payload_false : (rd (F := F) m).payload (barCell c) 0 false = xPay c := rfl
theorem payload_true : (rd (F := F) m).payload (barCell c) 0 true = yPay c := rfl
theorem payload_x (d : Bool) : (rd (F := F) m).payload (xCell c j k) 0 d = xferPay m c j k := by
  show xferPay m c (jOf (dsem j k)) (kOf (dsem j k)) = _
  rw [jOf_dsem, kOf_dsem]

/-- The whole of a barrier cell's round: both neighbours' buffers. -/
theorem rest_bar : bigSep ((rd (F := F) m).duties (barCell c) 0 \ ∅) (fun d => (rd (F := F) m).payload (barCell c) 0 d)
    = iprop(xPay c ∗ yPay c) := by
  rw [Finset.sdiff_empty, duties_bar, bigSep_univ_eq_bigSepL [false, true] (by decide) (by decide), bigSepL_cons_cons,
    bigSepL_singleton, payload_false, payload_true]
  rfl
/-- The whole of a transfer cell's round. -/
theorem rest_x : bigSep ((rd (F := F) m).duties (xCell c j k) 0 \ ∅) (fun d => (rd (F := F) m).payload (xCell c j k) 0 d)
    = xferPay m c j k := by
  rw [Finset.sdiff_empty, duties_x, bigSep_singleton, payload_x]

end Tables

/-! ## What is owed, and in which order the waits go -/

/-- The obligation made of a list of (cell, amount): the first of the list is the last summand, so that it is the one
    peeled off. -/
def due : List (GSem nD τ sig × ℕ) → CellTallies nD τ sig Unit
  | [] => 0
  | g :: l => due l + tallyAt g.1 () g.2

/-- The arrivals device `c` owes: the first step's at `xp c` and the second's at `yp c`, for the listed row pieces. -/
def dueX (c : Dev nD) (l : List (Fin 4)) : List (GSem nD τ sig × ℕ) := l.map fun k => (xCell (xp c) 1 k, N)
def dueY (c : Dev nD) (l : List (Fin 4)) : List (GSem nD τ sig × ℕ) := l.map fun k => (xCell (yp c) 3 k, N)
def pieces : List (Fin 4) := [0, 1, 2, 3]
/-- What device `c` owes at launch, in the order it pays: a unit to each neighbour's barrier cell, then the arrivals. -/
def dueAll (c : Dev nD) : List (GSem nD τ sig × ℕ) :=
  (barCell (xp c), 1) :: (barCell (yp c), 1) :: (dueX c pieces ++ dueY c pieces)
def O₀ (c : Dev nD) : CellTallies nD τ sig Unit := due (dueAll c)

def L (g : GSem nD τ sig) : Finset Unit := if g.1.2 = .tc then {()} else ∅
/-- Levels: barrier cells at 1, the first step's arrivals at 2, the second's at 3, every other cell at 0. -/
def lvS (s : SemLoc sig) : ℕ := match s with
  | .reg _ => 1
  | .dma s => if 2 ≤ s.val then (if jOf s = 1 then 2 else if jOf s = 3 then 3 else 0) else 0
def lv (g : GSem nD τ sig) (_ : Unit) : ℕ := lvS g.2

theorem L_of_ne (g : GSem nD τ sig) (h : g.1.2 ≠ .tc) : L g = ∅ := if_neg h
theorem lvS_dsem (j k : Fin 4) : lvS (.dma (dsem j k)) = if j = 1 then 2 else if j = 3 then 3 else 0 := by
  show (if 2 ≤ (dsem j k).val then _ else _) = _
  rw [if_pos (dsem_ge j k), jOf_dsem]

/-- What is owed through a list is owed to one of its cells. -/
theorem due_pos {l : List (GSem nD τ sig × ℕ)} {g : GSem nD τ sig} {u : Unit} (h : 0 < due l g u) : ∃ p ∈ l, p.1 = g := by
  induction l with
  | nil => exact absurd h (Nat.lt_irrefl 0)
  | cons p l ih =>
    have h' : 0 < due l g u + tallyAt p.1 () p.2 g u := h
    rw [tallyAt_apply] at h'
    by_cases hp : p.1 = g
    · exact ⟨p, List.mem_cons_self, hp⟩
    · rw [if_neg (fun e => hp e.1.symm)] at h'
      obtain ⟨q, hq, e⟩ := ih h'
      exact ⟨q, List.mem_cons_of_mem _ hq, e⟩

/-- A core may wait on a cell while everything it owes is to TensorCore cells of a higher level. -/
theorem mayWait_due (c : Dev nD) (s : SemLoc sig) (l : List (GSem nD τ sig × ℕ))
    (hl : ∀ p ∈ l, p.1.1.2 = .tc ∧ lvS s < lvS p.1.2) :
    (levAts L lv : sProp 𝕄) ⊢ MayWait (c : Thread nD τ) s () (due l) :=
  MayOwe.of_cut (L := L) (lev := lv) (lvS s)
    (fun p hp => by rw [Finset.mem_singleton.mp hp]; exact Finset.mem_singleton_self ())
    (fun g u hg => by
      obtain ⟨p, hp, rfl⟩ := due_pos hg
      show u ∈ (if p.1.1.2 = .tc then ({()} : Finset Unit) else ∅)
      rw [if_pos (hl p hp).1]; exact Finset.mem_singleton_self ())
    (fun p hp => by rw [Finset.mem_singleton.mp hp]; exact le_rfl)
    (fun g u hg => by obtain ⟨p, hp, rfl⟩ := due_pos hg; exact (hl p hp).2)

end Cert.TwoStep

end
-- ==== Proof.Program.lean ====
/-
The kernel's body as one program in the row piece and the column half.

The printed body spells each row piece's operations out, once for each column half, in windows.  Here the
operations of one row piece are written once, and the printed body is shown to be their sequence.
-/
module

public import proofs.«01_k».proof.Proof.Schedule

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Programs of a TensorCore of this kernel. -/
abbrev Pg (F : FTy → Type) : Type 1 := Prog (TpuEff nD τ sig (Elt F) Λ₀ .tc) PUnit

/-- First step, row piece `k`: send it to device `n`'s landing buffer. -/
def sendX (n : Dev nD) (k : Fin 4) : Pg F :=
  Prog.lift (.enqueueDma (xP k) (.remote (Dev.tc n) (cP k) (.dma (dsem 0 k))) (.dma (dsem 1 k))
    (View.wordExact_bits rfl) (View.wordExact_bits rfl) ⟨⟨rfl, Or.inl rfl⟩, trivial⟩)

/-- Its arrival. -/
def waitX (k : Fin 4) : Pg F :=
  Prog.lift (.waitDma2 (dsem 1 k) (xP k) (cP k) (View.wordExact_bits rfl) (View.wordExact_bits rfl))

/-- The sum of what was loaded from the staged block and from the landing buffer. -/
def added (a b : Vec F S64x256 .f32) : FVec F S64x256 .f32 := k0_pay1 a b

/-- Form the sum of row piece `k` in column half `h` of the staged result. -/
def addUp (h : Fin 2) (k : Fin 4) : Pg F := do
  let a : Vec F S64x256 .f32 ← Prog.lift (.load xM (rX k).toLoadRect (View.loadsAt_vmem h_S64x256))
  let b : Vec F S64x256 .f32 ← Prog.lift (.load cM (rX k).toLoadRect (View.loadsAt_vmem h_S64x256))
  let _ : Vec F S64x256 .f32 ← Prog.lift (.load oM (rO h k).toLoadRect (View.loadsAt_vmem h_S64x256))
  Prog.lift (.store oM (rO h k) (added a b) Finset.univ (View.stores_vmem_bits_univ h_S64x256 rfl) (.inl rfl))

/-- Second step, row piece `k`: send the sum to device `n`'s staged result. -/
def sendY (h : Fin 2) (n : Dev nD) (k : Fin 4) : Pg F :=
  Prog.lift (.enqueueDma (oP h k) (.remote (Dev.tc n) (oP h k) (.dma (dsem 2 k))) (.dma (dsem 3 k))
    (View.wordExact_bits rfl) (View.wordExact_bits rfl) ⟨⟨rfl, Or.inl rfl⟩, trivial⟩)

/-- The other half's row piece `k` arrives; -/
def waitY (h : Fin 2) (k : Fin 4) : Pg F :=
  Prog.lift (.waitDma2 (dsem 3 k) (oP h k) (oP h k) (View.wordExact_bits rfl) (View.wordExact_bits rfl))
/-- the first step's send is over; -/
def doneX (k : Fin 4) : Pg F :=
  Prog.lift (.waitDma2 (dsem 0 k) (cP k) (xP k) (View.wordExact_bits rfl) (View.wordExact_bits rfl))
/-- the second step's send is over. -/
def doneY (h : Fin 2) (k : Fin 4) : Pg F :=
  Prog.lift (.waitDma2 (dsem 2 k) (oP h k) (oP h k) (View.wordExact_bits rfl) (View.wordExact_bits rfl))

/-- An operation sequence for each listed row piece in turn. -/
def each (P : Fin 4 → Pg F) : List (Fin 4) → Pg F
  | [] => pure ⟨⟩
  | k :: l => do P k; each P l

/-- The four passes over the row pieces, a device making column half `h`: send the first step's; add up each as it
    arrives and send the second step's; -/
def passMid (h : Fin 2) (ny : Fin 4 → Dev nD) (k : Fin 4) : Pg F := do waitX k; addUp h k; sendY h (ny k) k
/-- and last, the sends' ends. -/
def passEnd (h : Fin 2) (k : Fin 4) : Pg F := do doneX k; doneY h k

/-- What a device making column half `h` does after the handshake; `nx`, `ny` the devices it sends to. -/
def half (h : Fin 2) (nx ny : Fin 4 → Dev nD) : Pg F := do
  each (fun k => sendX (nx k) k) pieces
  each (passMid h ny) pieces
  each (waitY h) pieces
  each (passEnd h) pieces

/-- The devices a device of each column half sends to, as computed by the kernel. -/
def nx1 (d : Dev nD) (h : k0_cond1 d = 1#1) : Fin 4 → Dev nD :=
  ![⟨k0_dev3 d, k0_dev3_lt d h⟩, ⟨k0_dev4 d, k0_dev4_lt d h⟩, ⟨k0_dev5 d, k0_dev5_lt d h⟩, ⟨k0_dev6 d, k0_dev6_lt d h⟩]
def ny1 (d : Dev nD) (h : k0_cond1 d = 1#1) : Fin 4 → Dev nD :=
  ![⟨k0_dev7 d, k0_dev7_lt d h⟩, ⟨k0_dev8 d, k0_dev8_lt d h⟩, ⟨k0_dev9 d, k0_dev9_lt d h⟩, ⟨k0_dev10 d, k0_dev10_lt d h⟩]
def nx2 (d : Dev nD) (h : k0_cond2 d = 1#1) : Fin 4 → Dev nD :=
  ![⟨k0_dev11 d, k0_dev11_lt d h⟩, ⟨k0_dev12 d, k0_dev12_lt d h⟩, ⟨k0_dev13 d, k0_dev13_lt d h⟩, ⟨k0_dev14 d, k0_dev14_lt d h⟩]
def ny2 (d : Dev nD) (h : k0_cond2 d = 1#1) : Fin 4 → Dev nD :=
  ![⟨k0_dev15 d, k0_dev15_lt d h⟩, ⟨k0_dev16 d, k0_dev16_lt d h⟩, ⟨k0_dev17 d, k0_dev17_lt d h⟩, ⟨k0_dev18 d, k0_dev18_lt d h⟩]

/-- The body: the handshake, then the device's column half. -/
def whole : Pg F := do
  let d ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  if h : k0_cond1 d = 1#1 then half 0 (nx1 d h) (ny1 d h) else pure ⟨⟩
  if h : k0_cond2 d = 1#1 then half 1 (nx2 d h) (ny2 d h) else pure ⟨⟩

set_option maxRecDepth 65536 in
set_option maxHeartbeats 4000000 in
/-- The printed body is that program. -/
theorem body_eq_whole :
    cc0_body (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 = whole := by
  simp only [cc0_body_eq_skeleton, cc0_body_skel, whole, half]
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  simp only [k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    each, pieces, passMid, passEnd, sendX, waitX, addUp, sendY, waitY, doneX, doneY, semSignalWord, semWaitWord, Prog.lift, Prog.bind_op, Prog.bind_ret, Prog.pure_eq_ret]
  refine congrArg (Prog.op _) (funext fun d => ?_)
  refine congrArg (Prog.op _) (funext fun _ => ?_)
  refine congrArg (Prog.op _) (funext fun _ => ?_)
  refine congrArg (Prog.op _) (funext fun _ => ?_)
  by_cases h1 : k0_cond1 d = 1#1
  · by_cases h2 : k0_cond2 d = 1#1
    · exfalso; revert d; decide
    · simp only [dif_pos h1, dif_neg h2, Prog.bind_op, Prog.bind_ret]
      rfl
  · by_cases h2 : k0_cond2 d = 1#1
    · simp only [dif_neg h1, dif_pos h2, Prog.bind_op, Prog.bind_ret]
      rfl
    · exfalso; revert d; decide

/-- The device computed for a first-step send is `xp d`, for a second-step send `yp d`; the branch taken is the one of the
    device's column half. -/
theorem nx1_eq (d : Dev nD) (h) (k : Fin 4) : nx1 d h k = xp d := by
  fin_cases k
  · exact Fin.ext ((k0_dev3_eq d).trans (by revert d; decide))
  · exact Fin.ext ((k0_dev4_eq d).trans (by revert d; decide))
  · exact Fin.ext ((k0_dev5_eq d).trans (by revert d; decide))
  · exact Fin.ext ((k0_dev6_eq d).trans (by revert d; decide))
theorem ny1_eq (d : Dev nD) (h) (k : Fin 4) : ny1 d h k = yp d := by
  fin_cases k
  · exact Fin.ext ((k0_dev7_eq d).trans (by revert d; decide))
  · exact Fin.ext ((k0_dev8_eq d).trans (by revert d; decide))
  · exact Fin.ext ((k0_dev9_eq d).trans (by revert d; decide))
  · exact Fin.ext ((k0_dev10_eq d).trans (by revert d; decide))
theorem nx2_eq (d : Dev nD) (h) (k : Fin 4) : nx2 d h k = xp d := by
  fin_cases k
  · exact Fin.ext ((k0_dev11_eq d).trans (by revert d; decide))
  · exact Fin.ext ((k0_dev12_eq d).trans (by revert d; decide))
  · exact Fin.ext ((k0_dev13_eq d).trans (by revert d; decide))
  · exact Fin.ext ((k0_dev14_eq d).trans (by revert d; decide))
theorem ny2_eq (d : Dev nD) (h) (k : Fin 4) : ny2 d h k = yp d := by
  fin_cases k
  · exact Fin.ext ((k0_dev15_eq d).trans (by revert d; decide))
  · exact Fin.ext ((k0_dev16_eq d).trans (by revert d; decide))
  · exact Fin.ext ((k0_dev17_eq d).trans (by revert d; decide))
  · exact Fin.ext ((k0_dev18_eq d).trans (by revert d; decide))
theorem sig1_eq (d : Dev nD) : (⟨k0_dev1 d, k0_dev1_lt d⟩ : Dev nD) = xp d := Fin.ext ((k0_dev1_eq d).trans (by revert d; decide))
theorem sig2_eq (d : Dev nD) : (⟨k0_dev2 d, k0_dev2_lt d⟩ : Dev nD) = yp d := Fin.ext ((k0_dev2_eq d).trans (by revert d; decide))
theorem cond1_iff (d : Dev nD) : k0_cond1 d = 1#1 ↔ my d = 0 := by revert d; decide
theorem cond2_iff (d : Dev nD) : k0_cond2 d = 1#1 ↔ my d = 1 := by revert d; decide

end Cert.TwoStep

end
-- ==== Proof.Steps.lean ====
/-
One rule per operation of a row piece, for every device and every row piece.
-/
module

public import proofs.«01_k».proof.Proof.Program
public import Idealize.ShloMosaic.Lib.Pipeline.Value

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What lands and what is stored -/

/-- A row piece of `d`'s staged block landed in a landing buffer makes that piece hold `d`'s block. -/
theorem landed_x (d : Dev nD) (k : Fin 4) (f : (cc0_scratch0 : Ref sig .tc).ty.Contents (Elt F)) :
    ∀ i ∈ (cP k).view.set, (cP k).view.write (Elt F) f ((xP k).view.read (Elt F) (xAt m d)) Finset.univ i = xAt m d i := by
  intro i hi
  obtain ⟨x, -, rfl⟩ := Finset.mem_map.mp hi
  rw [View.write_emb_of_mem (Val := Elt F) _ _ (Finset.mem_univ x)]
  rfl

/-- A piece of a staged result landed in the same place of another makes that piece hold the same. -/
theorem landed_y (g : (cc0_stg1_0 : Ref sig .tc).ty.Contents (Elt F)) (h : Fin 2) (k : Fin 4) (f : (cc0_stg1_0 : Ref sig .tc).ty.Contents (Elt F)) :
    ∀ i ∈ (oP h k).view.set, (oP h k).view.write (Elt F) f ((oP h k).view.read (Elt F) g) Finset.univ i = g i := by
  intro i hi
  obtain ⟨x, -, rfl⟩ := Finset.mem_map.mp hi
  rw [View.write_emb_of_mem (Val := Elt F) _ _ (Finset.mem_univ x)]
  rfl

theorem halfOf_emb (h : Fin 2) (k : Fin 4) (x : S64x256.Idx) : halfOf ((rO h k).emb x) = h := by
  have h1 : (x 1).val < 256 := (x 1).isLt
  exact Fin.ext (by show (256 * h.val + 1 * (x 1).val) / 256 = h.val; omega)
theorem inHalf_emb (h : Fin 2) (k : Fin 4) (x : S64x256.Idx) : inHalf ((rO h k).emb x) = (rX k).emb x := by
  have h1 : (x 1).val < 256 := (x 1).isLt
  funext a
  fin_cases a
  · rfl
  · exact Fin.ext (by show (256 * h.val + 1 * (x 1).val) % 256 = 0 + 1 * (x 1).val; omega)

/-- The sum stored: the row piece then holds the final result. -/
theorem stored (c : Dev nD) (k : Fin 4) (f : (cc0_stg1_0 : Ref sig .tc).ty.Contents (Elt F)) :
    ∀ i ∈ (oP (my c) k).view.set, (oM.access (rO (my c) k)).write (Elt F) f
      (added ((xM.access (rX k)).read (Elt F) (xAt m c)) ((cM.access (rX k)).read (Elt F) (xAt m (xp c)))) Finset.univ i = outAt m c i := by
  intro i hi
  obtain ⟨x, -, rfl⟩ := Finset.mem_map.mp hi
  refine (View.write_emb_of_mem (Val := Elt F) (v := oM.access (rO (my c) k)) _ _ (Finset.mem_univ x)).trans ?_
  have e : outAt m c ((rO (my c) k).emb x) = sumAt m c ((rX k).emb x) := by
    unfold outAt; rw [halfOf_emb, inHalf_emb, rowDev_my]
  refine Eq.trans ?_ e.symm
  unfold added k0_pay1
  rw [shapeCast_self]
  rfl

/-! ## The records -/

variable (K : Dev nD × Option (Fin 4 × Fin 4) → ℕ)

/-- Every cell of every device: its invariant, and that its round 0 is open. -/
def records : sProp 𝕄 :=
  bigSep Finset.univ fun ci => iprop(cellInv ER (rd m) (K ci) (kcell ci) ∗ reached ER (kcell ci) 0)

instance records_persistent : BI.Persistent (records (F := F) m K) := by unfold records; infer_instance

theorem record_bar (c : Dev nD) : records (F := F) m K ⊢ iprop(cellInv ER (rd m) (K (c, none)) (barCell c) ∗ reached ER (barCell c) 0) :=
  bigSep_elim (Finset.mem_univ (c, none))
theorem record_x (c : Dev nD) (j k : Fin 4) :
    records (F := F) m K ⊢ iprop(cellInv ER (rd m) (K (c, some (j, k))) (xCell c j k) ∗ reached ER (xCell c j k) 0) :=
  bigSep_elim (Finset.mem_univ (c, some (j, k)))

/-- Device `c` owes what the list says. -/
def owing (c : Dev nD) (l : List (GSem nD τ sig × ℕ)) : sProp 𝕄 := iprop(∃ W, owes (c : Thread nD τ) (due l) W)

section Rules

variable (c : Dev nD) {Q : PUnit.{1} → sProp (MT nD τ sig Unit (Elt F) ℕ UU ℕ)}

/-- A wait whose two places are a row piece's size waits for one row piece. -/
theorem wait_piece (s : DmaSem sig) {sh sh' : Shape} {src : Memref sig .tc .vmem sh .f32} {dst : Memref sig .tc .vmem sh' .f32}
    (hN : dst.view.dmaCredit = N) {h1 : src.view.WordExact} {h2 : dst.view.WordExact} (K : PUnit → sProp (MT nD τ sig Unit (Elt F) ℕ UU ℕ)) :
    wpE (defs₀ (F := F)) 𝒱₀ (c : Thread nD τ) none Set.univ (.waitDma2 s src dst h1 h2) K
      = waitSpec (c : Thread nD τ) Set.univ (.dma s) N K := by rw [← hN]; rfl

/-- The wait for the one round of an own transfer cell: what the round hands over comes, and the cell closes at zero. -/
theorem wp_wait_cell (j k : Fin 4) {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma (dsem j k)) N K)
    (l : List (GSem nD τ sig × ℕ)) (hl : ∀ p ∈ l, p.1.1.2 = .tc ∧ lvS (.dma (dsem j k)) < lvS p.1.2) (kk : PUnit → Pg F) :
    iprop(records m K ∗ levAts L lv ∗ cred (tallyAt (xCell c j k) () N) ∗ atPos ER (xCell c j k) 0 ∅ 0 ∗ owing c l
        ∗ ((owing c l ∗ semVal (xCell c j k) 0 ∗ xferPay m c j k) -∗ wp frame (wpE (defs₀ (F := F)) 𝒱₀ (c : Thread nD τ) none) Set.univ (kk ⟨⟩) Q))
      ⊢ wp frame (wpE (defs₀ (F := F)) 𝒱₀ (c : Thread nD τ) none) Set.univ (.op w kk) Q := by
  iintro ⟨#HR, #Hlev, Hc, Hat, HO, Hk⟩
  ihave HI := (record_x m K c j k) $$ HR
  icases HI with ⟨#HI, -⟩
  unfold owing
  icases HO with ⟨%W, HO⟩
  iapply (Rounds.wp_wait_rest_token 𝒱₀ ER (rd m) (c : Thread nD τ) none (κ := K (c, some (j, k))) hw (Set.mem_univ _) ()
      (O := due l) (W := W) (R := 0) (m := 0) (T := ∅) (by rw [Nat.zero_add, expect_x])) $$ [Hc HO Hat]
  · isplitr; · iexact HI
    isplitl [Hc]; · iexact Hc
    isplitl [HO]; · iexact HO
    isplitr; · iapply (mayWait_due c (.dma (dsem j k)) l hl); iexact Hlev
    iexact Hat
  iintro ⟨HO, Hat, -, Hpay⟩
  ihave Hp := (Entails.of_eq (rest_x m c j k)) $$ Hpay
  imod (Rounds.cell_close ER (rd m) (Set.mem_univ (K (c, some (j, k)))) (fun h => h) (R := 0 + 1)
    (fun r hr => duties_later m (xCell c j k) r hr)) $$ [Hat] with Hz
  · isplitr; · iexact HI
    iexact Hat
  iapply Hk
  isplitl [HO]; · iexists _; iexact HO
  isplitl [Hz] <;> iassumption

/-- A first-step send to `xp c`. -/
theorem wp_sendX (n : Dev nD) (hn : n = xp c) (k : Fin 4) (l : List (GSem nD τ sig × ℕ)) (f) (kk : PUnit → Pg F) :
    iprop(records m K ∗ xHeld m fullShare.left c k ∗ cHeld (xp c) k f ∗ dutyTok ER (xCell c 0 k) 0 false ∗ dutyTok ER (xCell (xp c) 1 k) 0 false
        ∗ owing c ((xCell (xp c) 1 k, N) :: l)
        ∗ ((owing c l ∗ cred (tallyAt (xCell c 0 k) () N)) -∗ wp frame (wpE (defs₀ (F := F)) 𝒱₀ (c : Thread nD τ) none) Set.univ (kk ⟨⟩) Q))
      ⊢ wp frame (wpE (defs₀ (F := F)) 𝒱₀ (c : Thread nD τ) none) Set.univ (sendX n k >>= kk) Q := by
  subst hn
  unfold sendX xHeld cHeld
  simp only [Prog.lift, Prog.bind_op, Prog.bind_ret]
  iintro ⟨#HR, Hx, Hc, Ht, Ht', HO, Hk⟩
  ihave HI := (record_x m K c 0 k) $$ HR
  icases HI with ⟨#HI, #Hr⟩
  ihave HI' := (record_x m K (xp c) 1 k) $$ HR
  icases HI' with ⟨#HI', #Hr'⟩
  unfold owing
  icases HO with ⟨%W, HO⟩
  iapply (Rounds.wp_send_pointsTo (c' := (xp c : Thread nD τ)) (src := xP k) (dst := cP k) 𝒱₀ ER (rd m) (c : Thread nD τ) none (κ₁ := K (c, some (0, k))) (κ₂ := K (xp c, some (1, k)))
    (r₁ := 0) (r₂ := 0) (d₁ := false) (d₂ := false) (fd := f) (fs := xAt m c) (q := fullShare.left)
    (by rw [duties_x]; exact Finset.mem_singleton_self _) (by rw [duties_x]; exact Finset.mem_singleton_self _)
    () () N (show (cP k).view.amount (.dma (dsem 1 k)) = N from rfl) (amount_x m c 0 k false) (amount_x m (xp c) 1 k false) (due l) rfl (W := W)
    (by rw [payload_x]; exact BI.Entails.refl _)
    (by rw [payload_x]; unfold xferPay cHeld; rw [xp_xp]; exact Entails.of_eq (pointsTo_congr (landed_x m c k f)))) $$ [Hx Hc Ht Ht' HO]
  · isplitr; · iexact HI
    isplitr; · iexact HI'
    isplitl [Hx]; · iexact Hx
    isplitl [Hc]; · iexact Hc
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  iexact Hc

/-- A second-step send to `yp c`: the piece sent holds the final result. -/
theorem wp_sendY (n : Dev nD) (hn : n = yp c) (k : Fin 4) (l : List (GSem nD τ sig × ℕ)) (f) (kk : PUnit → Pg F) :
    iprop(records m K ∗ oHeld c (my c) k (outAt m c) ∗ oHeld (yp c) (my c) k f ∗ dutyTok ER (xCell c 2 k) 0 false ∗ dutyTok ER (xCell (yp c) 3 k) 0 false
        ∗ owing c ((xCell (yp c) 3 k, N) :: l)
        ∗ ((owing c l ∗ cred (tallyAt (xCell c 2 k) () N)) -∗ wp frame (wpE (defs₀ (F := F)) 𝒱₀ (c : Thread nD τ) none) Set.univ (kk ⟨⟩) Q))
      ⊢ wp frame (wpE (defs₀ (F := F)) 𝒱₀ (c : Thread nD τ) none) Set.univ (sendY (my c) n k >>= kk) Q := by
  subst hn
  unfold sendY oHeld
  simp only [Prog.lift, Prog.bind_op, Prog.bind_ret]
  iintro ⟨#HR, Hx, Hc, Ht, Ht', HO, Hk⟩
  ihave HI := (record_x m K c 2 k) $$ HR
  icases HI with ⟨#HI, #Hr⟩
  ihave HI' := (record_x m K (yp c) 3 k) $$ HR
  icases HI' with ⟨#HI', #Hr'⟩
  unfold owing
  icases HO with ⟨%W, HO⟩
  iapply (Rounds.wp_send_pointsTo (c' := (yp c : Thread nD τ)) (src := oP (my c) k) (dst := oP (my c) k) 𝒱₀ ER (rd m) (c : Thread nD τ) none (κ₁ := K (c, some (2, k))) (κ₂ := K (yp c, some (3, k)))
    (r₁ := 0) (r₂ := 0) (d₁ := false) (d₂ := false) (fd := f) (fs := outAt m c) (q := fullShare)
    (by rw [duties_x]; exact Finset.mem_singleton_self _) (by rw [duties_x]; exact Finset.mem_singleton_self _)
    () () N (show (oP (my c) k).view.amount (.dma (dsem 3 k)) = N from rfl) (amount_x m c 2 k false) (amount_x m (yp c) 3 k false) (due l) rfl (W := W)
    (by rw [payload_x]; exact BI.Entails.refl _)
    (by rw [payload_x]; unfold xferPay oHeld; rw [my_yp, ot_ot, outAt_yp]; exact Entails.of_eq (pointsTo_congr (landed_y (outAt m c) (my c) k f)))) $$ [Hx Hc Ht Ht' HO]
  · isplitr; · iexact HI
    isplitr; · iexact HI'
    isplitl [Hx]; · iexact Hx
    isplitl [Hc]; · iexact Hc
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  iexact Hc

/-- The sum formed: the result's piece goes from any contents to the final ones. -/
theorem wp_addUp (k : Fin 4) (f) (kk : PUnit → Pg F) :
    iprop(xHeld m fullShare.right c k ∗ cHeld c k (xAt m (xp c)) ∗ oHeld c (my c) k f
        ∗ ((xHeld m fullShare.right c k ∗ cHeld c k (xAt m (xp c)) ∗ oHeld c (my c) k (outAt m c))
            -∗ wp frame (wpE (defs₀ (F := F)) 𝒱₀ (c : Thread nD τ) none) Set.univ (kk ⟨⟩) Q))
      ⊢ wp frame (wpE (defs₀ (F := F)) 𝒱₀ (c : Thread nD τ) none) Set.univ (addUp (my c) k >>= kk) Q := by
  unfold addUp xHeld cHeld oHeld
  simp only [Prog.lift, Prog.bind_op, Prog.bind_ret]
  iintro ⟨Hx, Hc, Ho, Hk⟩
  iapply (wp_load_rect 𝒱₀ (c : Thread nD τ) none Set.univ (m := xM) (r := rX k) (S := (xP k).view.set) subset_rfl) $$ Hx; iintro Hx
  iapply (wp_load_rect 𝒱₀ (c : Thread nD τ) none Set.univ (m := cM) (r := rX k) (S := (cP k).view.set) subset_rfl) $$ Hc; iintro Hc
  iapply (wp_load_rect 𝒱₀ (c : Thread nD τ) none Set.univ (m := oM) (r := rO (my c) k) (S := (oP (my c) k).view.set) subset_rfl) $$ Ho; iintro Ho
  iapply (wp_store 𝒱₀ (c : Thread nD τ) none Set.univ (m := oM) (r := rO (my c) k) (Mk := Finset.univ) (S := (oP (my c) k).view.set) subset_rfl) $$ Ho; iintro Ho
  iapply Hk
  isplitl [Hx]; · iexact Hx
  isplitl [Hc]; · iexact Hc
  iapply (Entails.of_eq (pointsTo_congr (stored m c k f))); iexact Ho

end Rules

end Cert.TwoStep

end
-- ==== Proof.Body.lean ====
/-
The body of a device, from what it holds at launch to what it leaves.
-/
module

public import proofs.«01_k».proof.Proof.Steps
public import Idealize.ShloMosaic.Lib.Pipeline.BigSepL

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 4) → ℕ)

/-! ## What goes with a row piece, stage by stage -/

section Stages
variable (c : Dev nD)

/-- The ghost state of row piece `k` at launch: the positions at the device's own four cells, the duty tokens it pays with. -/
def ghostAt (k : Fin 4) : sProp 𝕄 :=
  iprop((atPos ER (xCell c 0 k) 0 ∅ 0 ∗ atPos ER (xCell c 1 k) 0 ∅ 0 ∗ atPos ER (xCell c 2 k) 0 ∅ 0 ∗ atPos ER (xCell c 3 k) 0 ∅ 0)
    ∗ dutyTok ER (xCell c 0 k) 0 false ∗ dutyTok ER (xCell (xp c) 1 k) 0 false
    ∗ dutyTok ER (xCell c 2 k) 0 false ∗ dutyTok ER (xCell (yp c) 3 k) 0 false)
/-- The credit for the two arrivals. -/
def credAt (k : Fin 4) : sProp 𝕄 := iprop(cred (tallyAt (xCell c 1 k) () N) ∗ cred (tallyAt (xCell c 3 k) () N))

variable (f : Buf (Elt F) ((xp c : Thread nD τ).loc cc0_scratch0)) (g : Buf (Elt F) ((c : Thread nD τ).loc cc0_stg1_0))
  (g' : Buf (Elt F) ((yp c : Thread nD τ).loc cc0_stg1_0))

/-- After the handshake. -/
def stage0 (k : Fin 4) : sProp 𝕄 :=
  iprop(ghostAt c k ∗ credAt c k ∗ (xHeld m fullShare.left c k ∗ xHeld m fullShare.right c k)
    ∗ cHeld (xp c) k f ∗ oHeld c (my c) k g ∗ oHeld (yp c) (my c) k g')
/-- The first step's send started. -/
def stage1 (k : Fin 4) : sProp 𝕄 :=
  iprop((atPos ER (xCell c 0 k) 0 ∅ 0 ∗ atPos ER (xCell c 1 k) 0 ∅ 0 ∗ atPos ER (xCell c 2 k) 0 ∅ 0 ∗ atPos ER (xCell c 3 k) 0 ∅ 0)
    ∗ (dutyTok ER (xCell c 2 k) 0 false ∗ dutyTok ER (xCell (yp c) 3 k) 0 false)
    ∗ (cred (tallyAt (xCell c 0 k) () N) ∗ cred (tallyAt (xCell c 1 k) () N) ∗ cred (tallyAt (xCell c 3 k) () N))
    ∗ xHeld m fullShare.right c k ∗ oHeld c (my c) k g ∗ oHeld (yp c) (my c) k g')
/-- Added up, the second step's send started. -/
def stage2 (k : Fin 4) : sProp 𝕄 :=
  iprop((atPos ER (xCell c 0 k) 0 ∅ 0 ∗ atPos ER (xCell c 2 k) 0 ∅ 0 ∗ atPos ER (xCell c 3 k) 0 ∅ 0)
    ∗ (cred (tallyAt (xCell c 0 k) () N) ∗ cred (tallyAt (xCell c 2 k) () N) ∗ cred (tallyAt (xCell c 3 k) () N))
    ∗ semVal (xCell c 1 k) 0 ∗ xHeld m fullShare.right c k ∗ cHeld c k (xAt m (xp c)))
/-- The other half's piece arrived. -/
def stage3 (k : Fin 4) : sProp 𝕄 :=
  iprop((atPos ER (xCell c 0 k) 0 ∅ 0 ∗ atPos ER (xCell c 2 k) 0 ∅ 0)
    ∗ (cred (tallyAt (xCell c 0 k) () N) ∗ cred (tallyAt (xCell c 2 k) () N))
    ∗ (semVal (xCell c 1 k) 0 ∗ semVal (xCell c 3 k) 0) ∗ xHeld m fullShare.right c k ∗ cHeld c k (xAt m (xp c))
    ∗ oHeld c (ot (my c)) k (outAt m c))
/-- All over: the four cells at zero, every piece whole again. -/
def stage4 (k : Fin 4) : sProp 𝕄 :=
  iprop((semVal (xCell c 0 k) 0 ∗ semVal (xCell c 1 k) 0 ∗ semVal (xCell c 2 k) 0 ∗ semVal (xCell c 3 k) 0)
    ∗ (xHeld m fullShare.left c k ∗ xHeld m fullShare.right c k) ∗ cHeld c k (xAt m (xp c))
    ∗ oHeld c (my c) k (outAt m c) ∗ oHeld c (ot (my c)) k (outAt m c))

/-! ## The passes over the row pieces -/

/-- What every step may use: the cells' records and the levels. -/
def facts : sProp 𝕄 := iprop(records m K ∗ levAts L lv)
instance facts_persistent : BI.Persistent (facts (F := F) m K) := by unfold facts; infer_instance

variable {Q : PUnit.{1} → sProp (MT nD τ sig Unit (Elt F) ℕ UU ℕ)}

/-- A pass: if each row piece's operations take it from `A` to `B`, the owed list one piece shorter, the pass takes all of
    the listed pieces. -/
theorem wp_each (P : Fin 4 → Pg F) (A B : Fin 4 → sProp 𝕄) (O : List (Fin 4) → sProp 𝕄)
    (hstep : ∀ (k : Fin 4) (l : List (Fin 4)) (kk : PUnit → Pg F),
      iprop(facts m K ∗ A k ∗ O (k :: l) ∗ ((O l ∗ B k) -∗ wp frame (wpE (defs₀ (F := F)) 𝒱₀ (c : Thread nD τ) none) Set.univ (kk ⟨⟩) Q))
        ⊢ wp frame (wpE (defs₀ (F := F)) 𝒱₀ (c : Thread nD τ) none) Set.univ (P k >>= kk) Q)
    (l : List (Fin 4)) (kk : PUnit → Pg F) :
    iprop(facts m K ∗ bigSepL l A ∗ O l ∗ ((O [] ∗ bigSepL l B) -∗ wp frame (wpE (defs₀ (F := F)) 𝒱₀ (c : Thread nD τ) none) Set.univ (kk ⟨⟩) Q))
      ⊢ wp frame (wpE (defs₀ (F := F)) 𝒱₀ (c : Thread nD τ) none) Set.univ (each P l >>= kk) Q := by
  induction l with
  | nil =>
    show _ ⊢ wp frame (wpE (defs₀ (F := F)) 𝒱₀ (c : Thread nD τ) none) Set.univ (kk ⟨⟩) Q
    iintro ⟨-, HA, HO, Hk⟩
    iapply Hk
    isplitl [HO]; · iexact HO
    iexact HA
  | cons k l ih =>
    rw [each, bind_assoc, bigSepL_cons', bigSepL_cons']
    iintro ⟨#HF, ⟨HA, HAs⟩, HO, Hk⟩
    iapply (hstep k l fun _ => each P l >>= kk)
    isplitr; · iexact HF
    isplitl [HA]; · iexact HA
    isplitl [HO]; · iexact HO
    iintro ⟨HO, HB⟩
    iapply ih
    isplitr; · iexact HF
    isplitl [HAs]; · iexact HAs
    isplitl [HO]; · iexact HO
    iintro ⟨HO, HBs⟩
    iapply Hk
    isplitl [HO]; · iexact HO
    isplitl [HB] <;> iassumption

/-- A first-step send takes its piece from the handshake's end to in flight. -/
theorem pass0 (nx : Fin 4 → Dev nD) (hnx : ∀ k, nx k = xp c) (k : Fin 4) (l : List (Fin 4)) (kk : PUnit → Pg F) :
    iprop(facts m K ∗ stage0 m c f g g' k ∗ owing c (dueX c (k :: l) ++ dueY c pieces)
        ∗ ((owing c (dueX c l ++ dueY c pieces) ∗ stage1 m c g g' k) -∗ wp frame (wpE (defs₀ (F := F)) 𝒱₀ (c : Thread nD τ) none) Set.univ (kk ⟨⟩) Q))
      ⊢ wp frame (wpE (defs₀ (F := F)) 𝒱₀ (c : Thread nD τ) none) Set.univ (sendX (nx k) k >>= kk) Q := by
  unfold facts stage0 ghostAt credAt stage1
  iintro ⟨⟨#HR, -⟩, ⟨⟨Hat, Ht0, Ht1, Ht2, Ht3⟩, ⟨Hc1, Hc3⟩, ⟨HxL, HxR⟩, Hc, Ho, Hoy⟩, HO, Hk⟩
  iapply (wp_sendX m K c (nx k) (hnx k) k (dueX c l ++ dueY c pieces) f kk)
  isplitr; · iexact HR
  isplitl [HxL]; · iexact HxL
  isplitl [Hc]; · iexact Hc
  isplitl [Ht0]; · iexact Ht0
  isplitl [Ht1]; · iexact Ht1
  isplitl [HO]; · iexact HO
  iintro ⟨HO, Hc0⟩
  iapply Hk
  isplitl [HO]; · iexact HO
  isplitl [Hat]; · iexact Hat
  isplitl [Ht2 Ht3]; · isplitl [Ht2] <;> iassumption
  isplitl [Hc0 Hc1 Hc3]
  · isplitl [Hc0]; · iexact Hc0
    isplitl [Hc1] <;> iassumption
  isplitl [HxR]; · iexact HxR
  isplitl [Ho] <;> iassumption

/-- Second-step arrivals are above first-step ones. -/
theorem dueY_above (k : Fin 4) (l : List (Fin 4)) : ∀ p ∈ dueY c l, p.1.1.2 = .tc ∧ lvS (.dma (dsem 1 k)) < lvS p.1.2 := by
  intro p hp
  obtain ⟨k', -, rfl⟩ := List.mem_map.mp hp
  refine ⟨rfl, ?_⟩
  show lvS (.dma (dsem 1 k)) < lvS (.dma (dsem 3 k'))
  rw [lvS_dsem, lvS_dsem]; decide

/-- The arrival, the sum, the second-step send. -/
theorem pass1 (ny : Fin 4 → Dev nD) (hny : ∀ k, ny k = yp c) (k : Fin 4) (l : List (Fin 4)) (kk : PUnit → Pg F) :
    iprop(facts m K ∗ stage1 m c g g' k ∗ owing c (dueY c (k :: l))
        ∗ ((owing c (dueY c l) ∗ stage2 m c k) -∗ wp frame (wpE (defs₀ (F := F)) 𝒱₀ (c : Thread nD τ) none) Set.univ (kk ⟨⟩) Q))
      ⊢ wp frame (wpE (defs₀ (F := F)) 𝒱₀ (c : Thread nD τ) none) Set.univ (passMid (my c) ny k >>= kk) Q := by
  unfold facts stage1 stage2 passMid
  rw [bind_assoc]
  unfold waitX
  simp only [Prog.lift, Prog.bind_op, Prog.bind_ret]
  iintro ⟨⟨#HR, #Hlev⟩, ⟨⟨Ha0, Ha1, Ha2, Ha3⟩, ⟨Ht2, Ht3⟩, ⟨Hc0, Hc1, Hc3⟩, HxR, Ho, Hoy⟩, HO, Hk⟩
  iapply (wp_wait_cell m K c 1 k (wait_piece c (dsem 1 k) (src := xP k) (dst := cP k) (credit_c k)) (dueY c (k :: l)) (dueY_above c k (k :: l)))
  isplitr; · iexact HR
  isplitr; · iexact Hlev
  isplitl [Hc1]; · iexact Hc1
  isplitl [Ha1]; · iexact Ha1
  isplitl [HO]; · iexact HO
  iintro ⟨HO, Hz, Hp⟩
  simp only [bind_assoc]
  iapply (wp_addUp m c k g)
  isplitl [HxR]; · iexact HxR
  isplitl [Hp]; · iapply (Entails.of_eq (show xferPay m c 1 k = cHeld c k (xAt m (xp c)) from rfl)); iexact Hp
  isplitl [Ho]; · iexact Ho
  iintro ⟨HxR, Hcm, Ho⟩
  iapply (wp_sendY m K c (ny k) (hny k) k (dueY c l) g' kk)
  isplitr; · iexact HR
  isplitl [Ho]; · iexact Ho
  isplitl [Hoy]; · iexact Hoy
  isplitl [Ht2]; · iexact Ht2
  isplitl [Ht3]; · iexact Ht3
  isplitl [HO]; · iexact HO
  iintro ⟨HO, Hc2⟩
  iapply Hk
  isplitl [HO]; · iexact HO
  isplitl [Ha0 Ha2 Ha3]
  · isplitl [Ha0]; · iexact Ha0
    isplitl [Ha2] <;> iassumption
  isplitl [Hc0 Hc2 Hc3]
  · isplitl [Hc0]; · iexact Hc0
    isplitl [Hc2] <;> iassumption
  isplitl [Hz]; · iexact Hz
  isplitl [HxR] <;> iassumption

/-- The other half's piece arriving. -/
theorem pass2 (k : Fin 4) (l : List (Fin 4)) (kk : PUnit → Pg F) :
    iprop(facts m K ∗ stage2 m c k ∗ owing c []
        ∗ ((owing c [] ∗ stage3 m c k) -∗ wp frame (wpE (defs₀ (F := F)) 𝒱₀ (c : Thread nD τ) none) Set.univ (kk ⟨⟩) Q))
      ⊢ wp frame (wpE (defs₀ (F := F)) 𝒱₀ (c : Thread nD τ) none) Set.univ (waitY (my c) k >>= kk) Q := by
  unfold facts stage2 stage3 waitY
  simp only [Prog.lift, Prog.bind_op, Prog.bind_ret]
  iintro ⟨⟨#HR, #Hlev⟩, ⟨⟨Ha0, Ha2, Ha3⟩, ⟨Hc0, Hc2, Hc3⟩, Hz1, HxR, Hcm⟩, HO, Hk⟩
  iapply (wp_wait_cell m K c 3 k (wait_piece c (dsem 3 k) (src := oP (my c) k) (dst := oP (my c) k) (credit_o (my c) k)) [] (fun p hp => absurd hp List.not_mem_nil))
  isplitr; · iexact HR
  isplitr; · iexact Hlev
  isplitl [Hc3]; · iexact Hc3
  isplitl [Ha3]; · iexact Ha3
  isplitl [HO]; · iexact HO
  iintro ⟨HO, Hz3, Hp⟩
  iapply Hk
  isplitl [HO]; · iexact HO
  isplitl [Ha0 Ha2]; · isplitl [Ha0] <;> iassumption
  isplitl [Hc0 Hc2]; · isplitl [Hc0] <;> iassumption
  isplitl [Hz1 Hz3]; · isplitl [Hz1] <;> iassumption
  isplitl [HxR]; · iexact HxR
  isplitl [Hcm]; · iexact Hcm
  iapply (Entails.of_eq (show xferPay m c 3 k = oHeld c (ot (my c)) k (outAt m c) from rfl)); iexact Hp

/-- Both sends' ends. -/
theorem pass3 (k : Fin 4) (l : List (Fin 4)) (kk : PUnit → Pg F) :
    iprop(facts m K ∗ stage3 m c k ∗ owing c []
        ∗ ((owing c [] ∗ stage4 m c k) -∗ wp frame (wpE (defs₀ (F := F)) 𝒱₀ (c : Thread nD τ) none) Set.univ (kk ⟨⟩) Q))
      ⊢ wp frame (wpE (defs₀ (F := F)) 𝒱₀ (c : Thread nD τ) none) Set.univ (passEnd (my c) k >>= kk) Q := by
  unfold facts stage3 stage4 passEnd doneX doneY
  simp only [Prog.lift, Prog.bind_op, Prog.bind_ret]
  iintro ⟨⟨#HR, #Hlev⟩, ⟨⟨Ha0, Ha2⟩, ⟨Hc0, Hc2⟩, ⟨Hz1, Hz3⟩, HxR, Hcm, Ho⟩, HO, Hk⟩
  iapply (wp_wait_cell m K c 0 k (wait_piece c (dsem 0 k) (src := cP k) (dst := xP k) (credit_x k)) [] (fun p hp => absurd hp List.not_mem_nil))
  isplitr; · iexact HR
  isplitr; · iexact Hlev
  isplitl [Hc0]; · iexact Hc0
  isplitl [Ha0]; · iexact Ha0
  isplitl [HO]; · iexact HO
  iintro ⟨HO, Hz0, HxL⟩
  iapply (wp_wait_cell m K c 2 k (wait_piece c (dsem 2 k) (src := oP (my c) k) (dst := oP (my c) k) (credit_o (my c) k)) [] (fun p hp => absurd hp List.not_mem_nil))
  isplitr; · iexact HR
  isplitr; · iexact Hlev
  isplitl [Hc2]; · iexact Hc2
  isplitl [Ha2]; · iexact Ha2
  isplitl [HO]; · iexact HO
  iintro ⟨HO, Hz2, Hoo⟩
  iapply Hk
  isplitl [HO]; · iexact HO
  isplitl [Hz0 Hz1 Hz2 Hz3]
  · isplitl [Hz0]; · iexact Hz0
    isplitl [Hz1]; · iexact Hz1
    isplitl [Hz2] <;> iassumption
  isplitl [HxL HxR]
  · isplitl [HxL]; · iapply (Entails.of_eq (show xferPay m c 0 k = xHeld m fullShare.left c k from rfl)); iexact HxL
    iexact HxR
  isplitl [Hcm]; · iexact Hcm
  isplitl [Hoo]; · iapply (Entails.of_eq (show xferPay m c 2 k = oHeld c (my c) k (outAt m c) from rfl)); iexact Hoo
  iexact Ho

theorem bigSep_pieces (Φ : Fin 4 → sProp 𝕄) : bigSep Finset.univ Φ = bigSepL pieces Φ :=
  bigSep_univ_eq_bigSepL pieces (by decide) (by decide) Φ

/-- The whole half: every row piece from the handshake's end to the end. -/
theorem wp_half (nx ny : Fin 4 → Dev nD) (hnx : ∀ k, nx k = xp c) (hny : ∀ k, ny k = yp c) (kk : PUnit → Pg F) :
    iprop(facts m K ∗ (bigSep Finset.univ fun k => stage0 m c f g g' k) ∗ owing c (dueX c pieces ++ dueY c pieces)
        ∗ ((owing c [] ∗ bigSep Finset.univ fun k => stage4 m c k) -∗ wp frame (wpE (defs₀ (F := F)) 𝒱₀ (c : Thread nD τ) none) Set.univ (kk ⟨⟩) Q))
      ⊢ wp frame (wpE (defs₀ (F := F)) 𝒱₀ (c : Thread nD τ) none) Set.univ (half (my c) nx ny >>= kk) Q := by
  unfold half
  simp only [bind_assoc]
  rw [bigSep_pieces, bigSep_pieces]
  iintro ⟨#HF, HS, HO, Hk⟩
  iapply (wp_each m K c (fun k => sendX (nx k) k) (stage0 m c f g g') (stage1 m c g g') (fun l => owing c (dueX c l ++ dueY c pieces))
    (fun k l kk => pass0 m K c f g g' nx hnx k l kk) pieces)
  isplitr; · iexact HF
  isplitl [HS]; · iexact HS
  isplitl [HO]; · iexact HO
  iintro ⟨HO, HS⟩
  iapply (wp_each m K c (passMid (my c) ny) (stage1 m c g g') (stage2 m c) (fun l => owing c (dueY c l))
    (fun k l kk => pass1 m K c g g' ny hny k l kk) pieces)
  isplitr; · iexact HF
  isplitl [HS]; · iexact HS
  isplitl [HO]; · iexact HO
  iintro ⟨HO, HS⟩
  iapply (wp_each m K c (waitY (my c)) (stage2 m c) (stage3 m c) (fun _ => owing c []) (fun k l kk => pass2 m K c k l kk) pieces)
  isplitr; · iexact HF
  isplitl [HS]; · iexact HS
  isplitl [HO]; · iexact HO
  iintro ⟨HO, HS⟩
  iapply (wp_each m K c (passEnd (my c)) (stage3 m c) (stage4 m c) (fun _ => owing c []) (fun k l kk => pass3 m K c k l kk) pieces)
  isplitr; · iexact HF
  isplitl [HS]; · iexact HS
  isplitl [HO]; · iexact HO
  iexact Hk

end Stages

end Cert.TwoStep

end
-- ==== Proof.Device.lean ====
/-
A device's run through the body, as the launch theorem asks for it.
-/
module

public import proofs.«01_k».proof.Proof.Body
public import proofs.«01_k».proof.Proof.Gen.KernelIdeal.Points

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The handshake's two signals and wait -/

section Handshake
variable (K : Dev nD × Option (Fin 4 × Fin 4) → ℕ) (c : Dev nD) {Q : PUnit.{1} → sProp (MT nD τ sig Unit (Elt F) ℕ UU ℕ)}

/-- A unit signalled to device `d`'s barrier cell, with what duty `b` of it hands over. -/
theorem wp_signalBar (n d : Dev nD) (hn : n = d) (b : Bool) (l : List (GSem nD τ sig × ℕ)) (kk : PUnit → Pg F) :
    iprop(records m K ∗ dutyTok ER (barCell d) 0 b ∗ (rd m).payload (barCell d) 0 b ∗ owing c ((barCell d, 1) :: l)
        ∗ (owing c l -∗ wp frame (wpE (defs₀ (F := F)) 𝒱₀ (c : Thread nD τ) none) Set.univ (kk ⟨⟩) Q))
      ⊢ wp frame (wpE (defs₀ (F := F)) 𝒱₀ (c : Thread nD τ) none) Set.univ (semSignalWord n barS 1#32 >>= kk) Q := by
  subst hn
  simp only [semSignalWord, Prog.lift, Prog.bind_op, Prog.bind_ret]
  iintro ⟨#HR, Ht, Hp, HO, Hk⟩
  ihave HI := (record_bar m K n) $$ HR
  icases HI with ⟨#HI, #Hr⟩
  unfold owing
  icases HO with ⟨%W, HO⟩
  iapply (Rounds.wp_signal 𝒱₀ ER (rd m) (c : Thread nD τ) none (dst := (n : Thread nD τ)) (κ := K (n, none)) (d := b)
      (by rw [duties_bar]; exact Finset.mem_univ _) ((amount_bar m n b).trans (by decide)) () (due l) rfl (W := W)) $$ [Ht Hp HO]
  · isplitr; · iexact HI
    isplitl [HO]; · iexact HO
    isplitl [Ht]; · iexact Ht
    isplitl [Hp]; · iexact Hp
    iexact Hr
  iintro HO
  iapply Hk
  iexists _; iexact HO

/-- Arrivals are above the barrier. -/
theorem dueXY_above : ∀ p ∈ dueX c pieces ++ dueY c pieces, p.1.1.2 = .tc ∧ lvS (.reg barS) < lvS p.1.2 := by
  intro p hp
  rcases List.mem_append.mp hp with h | h
  · obtain ⟨k, -, rfl⟩ := List.mem_map.mp h
    refine ⟨rfl, ?_⟩
    show 1 < lvS (.dma (dsem 1 k))
    rw [lvS_dsem]; decide
  · obtain ⟨k, -, rfl⟩ := List.mem_map.mp h
    refine ⟨rfl, ?_⟩
    show 1 < lvS (.dma (dsem 3 k))
    rw [lvS_dsem]; decide

/-- The wait for both neighbours: their buffers come, and the barrier cell closes at zero. -/
theorem wp_waitBar (kk : PUnit → Pg F) :
    iprop(facts m K ∗ cred (tallyAt (barCell c) () 2) ∗ atPos ER (barCell c) 0 ∅ 0 ∗ owing c (dueX c pieces ++ dueY c pieces)
        ∗ ((owing c (dueX c pieces ++ dueY c pieces) ∗ semVal (barCell c) 0 ∗ xPay c ∗ yPay c)
            -∗ wp frame (wpE (defs₀ (F := F)) 𝒱₀ (c : Thread nD τ) none) Set.univ (kk ⟨⟩) Q))
      ⊢ wp frame (wpE (defs₀ (F := F)) 𝒱₀ (c : Thread nD τ) none) Set.univ (semWaitWord barS 2#32 >>= kk) Q := by
  simp only [semWaitWord, Prog.lift, Prog.bind_op, Prog.bind_ret]
  unfold facts
  iintro ⟨⟨#HR, #Hlev⟩, Hc, Hat, HO, Hk⟩
  ihave HI := (record_bar m K c) $$ HR
  icases HI with ⟨#HI, -⟩
  unfold owing
  icases HO with ⟨%W, HO⟩
  iapply (Rounds.wp_wait_rest_token 𝒱₀ ER (rd m) (c : Thread nD τ) none (κ := K (c, none))
      (wpE_semWait_eq 𝒱₀ (c : Thread nD τ) none Set.univ) (Set.mem_univ _) () (O := due (dueX c pieces ++ dueY c pieces)) (W := W)
      (R := 0) (m := 0) (T := ∅) (by rw [expect_bar]; decide)) $$ [Hc HO Hat]
  · isplitr; · iexact HI
    isplitl [Hc]; · iexact Hc
    isplitl [HO]; · iexact HO
    isplitr; · iapply (mayWait_due c (.reg barS) _ (dueXY_above c)); iexact Hlev
    iexact Hat
  iintro ⟨HO, Hat, -, Hpay⟩
  ihave Hp := (Entails.of_eq (rest_bar m c)) $$ Hpay
  imod (Rounds.cell_close ER (rd m) (Set.mem_univ (K (c, none))) (fun h => h) (R := 0 + 1)
    (fun r hr => duties_later m (barCell c) r hr)) $$ [Hat] with Hz
  · isplitr; · iexact HI
    iexact Hat
  iapply Hk
  isplitl [HO]; · iexists _; iexact HO
  isplitl [Hz]; · iexact Hz
  iexact Hp

end Handshake

/-! ## The pipeline's proof data -/

/-- What device `c` holds of the cells, besides the records: its place at its barrier cell, the tokens of the two signals it
    sends, and each row piece's. -/
def linear (c : Dev nD) : sProp 𝕄 :=
  iprop(atPos ER (barCell c) 0 ∅ 0 ∗ dutyTok ER (barCell (xp c)) 0 false ∗ dutyTok ER (barCell (yp c)) 0 true
    ∗ bigSep Finset.univ fun k => ghostAt c k)

/-- What the body starts from, -/
def start (c : Dev nD) : sProp 𝕄 :=
  iprop((∃ K, records m K ∗ linear c) ∗ cred (tallyAt (barCell c) () 2) ∗ (bigSep Finset.univ fun k => credAt c k) ∗ levAts L lv)
/-- with the landing buffer; -/
def Φ₀ (c : Dev nD) : sProp 𝕄 :=
  iprop(start m c ∗ ∃ f : Buf (Elt F) ((c : Thread nD τ).loc cc0_scratch0), ((c : Thread nD τ).loc cc0_scratch0) ↦{fullShare} f)

/-- Row piece `k`'s four cells at zero. -/
def zeros (c : Dev nD) (k : Fin 4) : sProp 𝕄 :=
  iprop(semVal (xCell c 0 k) 0 ∗ semVal (xCell c 1 k) 0 ∗ semVal (xCell c 2 k) 0 ∗ semVal (xCell c 3 k) 0)
/-- and what it leaves: the landing buffer and every cell at zero. -/
def Φ₁ (c : Dev nD) : sProp 𝕄 :=
  iprop((∃ f : Buf (Elt F) ((c : Thread nD τ).loc cc0_scratch0), ((c : Thread nD τ).loc cc0_scratch0) ↦{fullShare} f)
    ∗ (bigSep Finset.univ fun k => zeros c k) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer whole, its contents told by an equation. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def bodyPre (c : Dev nD) : sProp 𝕄 :=
  iprop(Φ₀ m c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def bodyPost (c : Dev nD) : sProp 𝕄 :=
  iprop(Φ₁ c ∗ (dats m ρ 0 c).owesAt () t0_0.succ ∗ staged c cc0_stg0_0 (xAt m c) ∗ staged c cc0_stg1_0 (outAt m c))

theorem owesAt_start (c : Dev nD) : (dats m ρ 0 c).owesAt () t0_0.castSucc ⊢ owing (F := F) c (dueAll c) := by
  unfold Dat.owesAt Pipeline.owesWithin owing
  iintro ⟨%W, %hW, HO⟩
  iexists W; iexact HO
theorem owesAt_end (c : Dev nD) : owing (F := F) c [] ⊢ (dats m ρ 0 c).owesAt () t0_0.succ := by
  unfold Dat.owesAt Pipeline.owesWithin owing
  iintro ⟨%W, HO⟩
  iexists W
  isplitr; · ipureintro; exact fun _ _ => Or.inl trivial
  iexact HO

theorem bigSep_six (A B C D E G : Fin 4 → sProp 𝕄) :
    (bigSep Finset.univ fun k => iprop(A k ∗ B k ∗ C k ∗ D k ∗ E k ∗ G k))
      = iprop(bigSep Finset.univ A ∗ bigSep Finset.univ B ∗ bigSep Finset.univ C ∗ bigSep Finset.univ D ∗ bigSep Finset.univ E ∗ bigSep Finset.univ G) := by
  rw [bigSep_sep' Finset.univ A, bigSep_sep' Finset.univ B, bigSep_sep' Finset.univ C, bigSep_sep' Finset.univ D, bigSep_sep' Finset.univ E]
theorem bigSep_five (A B C D E : Fin 4 → sProp 𝕄) :
    (bigSep Finset.univ fun k => iprop(A k ∗ B k ∗ C k ∗ D k ∗ E k))
      = iprop(bigSep Finset.univ A ∗ bigSep Finset.univ B ∗ bigSep Finset.univ C ∗ bigSep Finset.univ D ∗ bigSep Finset.univ E) := by
  rw [bigSep_sep' Finset.univ A, bigSep_sep' Finset.univ B, bigSep_sep' Finset.univ C, bigSep_sep' Finset.univ D]

/-- After the handshake the device runs its own column half. -/
theorem whole_tail (c : Dev nD) : ∃ nx ny : Fin 4 → Dev nD, (∀ k, nx k = xp c) ∧ (∀ k, ny k = yp c) ∧
    (if h : k0_cond1 c = 1#1 then
        half 0 (nx1 c h) (ny1 c h) >>= fun _ => (if h : k0_cond2 c = 1#1 then half 1 (nx2 c h) (ny2 c h) else pure ⟨⟩)
      else if h : k0_cond2 c = 1#1 then half 1 (nx2 c h) (ny2 c h) else pure ⟨⟩ : Pg F) = (half (my c) nx ny >>= fun _ => pure ⟨⟩) := by
  have hh : my c = 0 ∨ my c = 1 := by omega
  rcases hh with h | h
  · have h1 : k0_cond1 c = 1#1 := (cond1_iff c).mpr h
    have h2 : ¬ k0_cond2 c = 1#1 := fun h2 => by rw [(cond2_iff c).mp h2] at h; exact absurd h (by decide)
    exact ⟨nx1 c h1, ny1 c h1, nx1_eq c h1, ny1_eq c h1, by rw [dif_pos h1, dif_neg h2, h]⟩
  · have h1 : ¬ k0_cond1 c = 1#1 := fun h1 => by rw [(cond1_iff c).mp h1] at h; exact absurd h (by decide)
    have h2 : k0_cond2 c = 1#1 := (cond2_iff c).mpr h
    exact ⟨nx2 c h2, ny2 c h2, nx2_eq c h2, ny2_eq c h2, by rw [dif_neg h1, dif_pos h2, h]; exact (bind_pure _).symm⟩

/-- The body runs from what device `c` holds at launch to what it leaves. -/
theorem body_runs (c : Dev nD) :
    bodyPre m ρ c ⊢ wp frame (wpE (defs₀ (F := F)) 𝒱₀ c none) Set.univ (whole (F := F)) (fun _ => bodyPost m ρ c) := by
  unfold whole
  simp only [Prog.lift, Prog.bind_op, Prog.bind_ret, wp_deviceId]
  obtain ⟨nx, ny, hnx, hny, htail⟩ := whole_tail (F := F) c
  rw [htail]
  unfold bodyPre Φ₀ start linear
  iintro ⟨⟨⟨⟨%K, #HR, HatB, HtX, HtY, Hgh⟩, HcB, Hcr, #Hlev⟩, ⟨%f0, Hcomm⟩⟩, Ho, ⟨%d0, %g0, %hg0, Hx⟩, ⟨%d1, %g1, %hg1, Hout⟩⟩
  have hx : g0 = xAt m c := by rw [hg0]; unfold Dat.before; rw [if_pos (fetch0_0 t0_0)]; rfl
  subst hx
  ihave #HF : facts m K $$ []
  · unfold facts; isplitr; · iexact HR
    iexact Hlev
  ihave HO := (owesAt_start m ρ c) $$ Ho
  ihave Hout' := (Entails.of_eq (oWhole c (my c) g1)) $$ Hout
  icases Hout' with ⟨Hmine, Hother⟩
  iapply (wp_signalBar m K c _ (xp c) (sig1_eq c) false ((barCell (yp c), 1) :: (dueX c pieces ++ dueY c pieces)))
  isplitr; · iexact HR
  isplitl [HtX]; · iexact HtX
  isplitl [Hcomm]
  · rw [payload_false]; unfold xPay; rw [xp_xp]
    iexists f0
    iapply (Entails.of_eq (cWhole c f0)); iexact Hcomm
  isplitl [HO]; · iexact HO
  iintro HO
  iapply (wp_signalBar m K c _ (yp c) (sig2_eq c) true (dueX c pieces ++ dueY c pieces))
  isplitr; · iexact HR
  isplitl [HtY]; · iexact HtY
  isplitl [Hother]
  · rw [payload_true]; unfold yPay; rw [yp_yp, my_yp]
    iexists g1; iexact Hother
  isplitl [HO]; · iexact HO
  iintro HO
  iapply (wp_waitBar m K c)
  isplitr; · iexact HF
  isplitl [HcB]; · iexact HcB
  isplitl [HatB]; · iexact HatB
  isplitl [HO]; · iexact HO
  iintro ⟨HO, HzB, Hxp, Hyp⟩
  unfold xPay yPay
  icases Hxp with ⟨%f, Hxp⟩
  icases Hyp with ⟨%g', Hyp⟩
  iapply (wp_half m K c f g1 g' nx ny hnx hny)
  isplitr; · iexact HF
  isplitl [Hgh Hcr Hx Hxp Hmine Hyp]
  · unfold stage0
    rw [bigSep_six]
    isplitl [Hgh]; · iexact Hgh
    isplitl [Hcr]; · iexact Hcr
    isplitl [Hx]; · iapply (Entails.of_eq (xWhole m c)); iexact Hx
    isplitl [Hxp]; · iexact Hxp
    isplitl [Hmine] <;> iassumption
  isplitl [HO]; · iexact HO
  iintro ⟨HO, HS⟩
  unfold stage4
  ihave HS' := (Entails.of_eq (bigSep_five _ _ _ _ _)) $$ HS
  icases HS' with ⟨Hz, Hx, Hcomm, Hmine, Hother⟩
  rw [Prog.pure_eq_ret, wp_ret]; imodintro
  unfold bodyPost Φ₁
  isplitl [Hcomm Hz HzB]
  · isplitl [Hcomm]
    · iexists (xAt m (xp c)); iapply (Entails.of_eq (cWhole c (xAt m (xp c))).symm); iexact Hcomm
    isplitl [Hz]; · unfold zeros; iexact Hz
    iexact HzB
  isplitl [HO]; · iapply (owesAt_end m ρ c); iexact HO
  isplitl [Hx]
  · iexists _; isplitr; · (ipureintro; rfl)
    iapply (Entails.of_eq (xWhole m c).symm); iexact Hx
  iexists _; isplitr; · (ipureintro; rfl)
  iapply (Entails.of_eq (oWhole c (my c) (outAt m c)).symm)
  isplitl [Hmine] <;> iassumption

/-- The launch theorem's body obligation on core `c`. -/
theorem body_obligation (c : Dev nD) : BodyObligation (dats (F := F) m ρ 0 c) (defs₀ (F := F)) 𝒱₀ () Set.univ := fun t => by
  rw [fin_N0 t, bigSep_W0, bigSep_W0]
  simp only [owns_staged]
  show bodyPre m ρ c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  rw [body_eq_whole]
  exact body_runs m ρ c

end Cert.TwoStep

end
-- ==== Proof.Launch.lean ====
/-
The launch: the cells set up and their tokens dealt out, and every device's run put together.
-/
module

public import proofs.«01_k».proof.Proof.Device
public import Idealize.ShloMosaic.Lib.Pipeline.CollectiveSegs

@[expose] public section

noncomputable section

namespace Cert.TwoStep

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the cells -/

/-- The kernel's own semaphores, by array and row piece. -/
abbrev osem : Fin 4 × Fin 4 → SemLoc sig := fun i => .dma (dsem i.1 i.2)

theorem csem_inj : Function.Injective csem := by
  rintro (_ | i) (_ | i') h
  · rfl
  · cases h
  · cases h
  · obtain ⟨h1, h2⟩ := dsem_inj (SemLoc.dma.inj h)
    exact congrArg some (Prod.ext h1 h2)

theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

theorem ownSemFacts : Pipeline.OwnSemFacts cfg0.spec osem where
  isScoped := by decide
  inj := fun i i' h => Option.some.inj (csem_inj (a₁ := some i) (a₂ := some i') h)
  disj := by decide

/-- A family over a device's transfer cells, row piece by row piece. -/
theorem bigSep_transfer (Φ : Fin 4 × Fin 4 → sProp 𝕄) :
    bigSep Finset.univ Φ = bigSep Finset.univ fun k => iprop(Φ (0, k) ∗ Φ (1, k) ∗ Φ (2, k) ∗ Φ (3, k)) := by
  rw [bigSep_univ_prod, bigSep_univ_eq_bigSepL [0, 1, 2, 3] (by decide) (by decide), bigSepL_cons_cons, bigSepL_cons_cons,
    bigSepL_cons_cons, bigSepL_singleton, bigSep_sep', bigSep_sep', bigSep_sep']
  rfl

/-- A family over all a device's cells: the barrier cell's and the transfer cells'. -/
theorem bigSep_cells (Φ : Option (Fin 4 × Fin 4) → sProp 𝕄) :
    bigSep Finset.univ Φ
      = iprop(Φ none ∗ bigSep Finset.univ fun k => iprop(Φ (some (0, k)) ∗ Φ (some (1, k)) ∗ Φ (some (2, k)) ∗ Φ (some (3, k)))) := by
  rw [bigSep_univ_at Φ none, show (Finset.univ : Finset (Option (Fin 4 × Fin 4))).erase none = Finset.univ.map Function.Embedding.some from
    by decide, bigSep_map, bigSep_transfer]
  rfl

/-! ## The launch's ghost element -/

def allCells : Finset (GSem nD τ sig) := Finset.univ.map ⟨kcell, kcell_inj⟩

/-- A duty token: `false` of each cell, and `true` of each barrier cell. -/
abbrev tokOf : (Dev nD × Option (Fin 4 × Fin 4)) ⊕ Dev nD → GSem nD τ sig × ℕ × Bool
  | .inl ci => (kcell ci, 0, false)
  | .inr c => (barCell c, 0, true)
theorem tokOf_inj : Function.Injective tokOf := by
  rintro (a | a) (b | b) h
  · rw [kcell_inj (congrArg Prod.fst h)]
  · exact absurd (congrArg (fun x : GSem nD τ sig × ℕ × Bool => x.2.2) h) Bool.false_ne_true
  · exact absurd (congrArg (fun x : GSem nD τ sig × ℕ × Bool => x.2.2) h) Bool.false_ne_true.symm
  · have : a = b := congrArg (fun x : GSem nD τ sig × ℕ × Bool => x.1.1.1) h
    rw [this]
def allToks : Finset (GSem nD τ sig × ℕ × Bool) := Finset.univ.map ⟨tokOf, tokOf_inj⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun i => dutyTok ER (kcell (c, i)) 0 false) ∗ dutyTok ER (barCell c) 0 true)

/-- What the launch element deals device `c`. -/
def G (c : Dev nD) : sProp 𝕄 :=
  iprop((bigSep Finset.univ fun i => roundState ER (rd m) (kcell (c, i)) 0)
    ∗ (bigSep Finset.univ fun i => iprop(atPos ER (kcell (c, i)) 0 ∅ 0 ∗ reached ER (kcell (c, i)) 0)) ∗ toks c)

/-- What device `c` starts its body with. -/
def G' (c : Dev nD) : sProp 𝕄 := iprop(∃ K, records m K ∗ linear c)

theorem fund_cells : BI.own (ER (initOf allCells allToks)) ⊢ (|==> bigSep Finset.univ (G m) : sProp 𝕄) := by
  have hC (Φ : GSem nD τ sig → sProp 𝕄) :
      bigSep allCells Φ = bigSep Finset.univ fun c : Dev nD => bigSep Finset.univ fun i => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_sum, bigSep_univ_prod, bigSep_sep']; rfl
  iintro HX
  imod (Rounds.fund ER (rd m) allCells allToks) $$ HX with ⟨Hst, Hr, Hat, Htok⟩
  imodintro
  unfold G; simp only [bigSep_sep']
  isplitl [Hst]; · iapply (Entails.of_eq (hC fun g => roundState ER (rd m) g 0)); iexact Hst
  isplitl [Hat Hr]
  · isplitl [Hat]
    · iapply (Entails.of_eq (hC fun g => atPos ER g 0 ∅ 0)); iexact Hat
    · iapply (Entails.of_eq (hC fun g => reached ER g 0)); iexact Hr
  iapply (Entails.of_eq hT); iexact Htok

/-- The transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun k => zeros c k := by
  unfold Pipeline.ownSems0; rw [bigSep_transfer]; rfl
/-- the barrier semaphore is the one the launch leaves open. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun i => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells]; rfl

/-- Each cell's invariant is allocated from its counter at zero and its schedule's state. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (rd m) κ (kcell (c, i))))
          ∗ (bigSep Finset.univ fun i => iprop(atPos ER (kcell (c, i)) 0 ∅ 0 ∗ reached ER (kcell (c, i)) 0)) ∗ toks c) := by
  have halloc : iprop((bigSep Finset.univ fun i => semVal (kcell (c, i)) 0) ∗ bigSep Finset.univ fun i => roundState ER (rd m) (kcell (c, i)) 0)
      ⊢ (|={Set.univ}=> bigSep Finset.univ fun i => iprop(∃ κ : ℕ, cellInv ER (rd m) κ (kcell (c, i))) : sProp 𝕄) := by
    rw [← bigSep_sep']
    exact (bigSep_mono fun i _ => (Rounds.body_intro ER (rd m) (kcell (c, i))).trans inv_alloc).trans (bigSep_fupd _ _)
  unfold G
  iintro ⟨Hos, Hus, Hst, Hat, Htok⟩
  imod halloc $$ [Hos Hus Hst] with Hinv
  · isplitl [Hos Hus]
    · iapply (Entails.of_eq (sems0_eq c).symm)
      isplitl [Hus] <;> iassumption
    · iexact Hst
  imodintro
  isplitl [Hinv]; · iexact Hinv
  isplitl [Hat] <;> iassumption

/-- The tokens dealt out: a device gets the token of each signal and transfer it makes, two from each neighbour's cells. -/
theorem deal :
    iprop((bigSep Finset.univ fun c : Dev nD => bigSep Finset.univ fun i => atPos ER (kcell (c, i)) 0 ∅ 0) ∗ bigSep Finset.univ fun c : Dev nD => toks c)
      ⊢ (bigSep Finset.univ fun c : Dev nD => linear c : sProp 𝕄) := by
  unfold linear ghostAt toks
  simp only [bigSep_cells, bigSep_sep']
  iintro ⟨⟨HB, H0, H1, H2, H3⟩, ⟨HtB, Ht0, Ht1, Ht2, Ht3⟩, HtB'⟩
  isplitl [HB]; · iexact HB
  isplitl [HtB]; · iapply (Entails.of_eq (bigSep_univ_equiv xsw fun c : Dev nD => (dutyTok ER (barCell c) 0 false : sProp 𝕄))); iexact HtB
  isplitl [HtB']; · iapply (Entails.of_eq (bigSep_univ_equiv ysw fun c : Dev nD => (dutyTok ER (barCell c) 0 true : sProp 𝕄))); iexact HtB'
  isplitl [H0 H1 H2 H3]
  · isplitl [H0]; · iexact H0
    isplitl [H1]; · iexact H1
    isplitl [H2] <;> iassumption
  isplitl [Ht0]; · iexact Ht0
  isplitl [Ht1]
  · iapply (Entails.of_eq (bigSep_univ_equiv xsw fun c : Dev nD => (bigSep Finset.univ fun k => dutyTok ER (xCell c 1 k) 0 false : sProp 𝕄)))
    iexact Ht1
  isplitl [Ht2]; · iexact Ht2
  iapply (Entails.of_eq (bigSep_univ_equiv ysw fun c : Dev nD => (bigSep Finset.univ fun k => dutyTok ER (xCell c 3 k) 0 false : sProp 𝕄)))
  iexact Ht3

/-- Every device's own sets, put together and dealt out again: each gets all the records and what is its own. -/
theorem regroup :
    (bigSep Finset.univ fun c : Dev nD => iprop((bigSep Finset.univ fun i => iprop(∃ κ : ℕ, cellInv ER (rd m) κ (kcell (c, i))))
          ∗ (bigSep Finset.univ fun i => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × Option (Fin 4 × Fin 4) => iprop(∃ κ : ℕ, cellInv ER (rd m) κ (kcell ci))),
    bigSep_congr (s := Finset.univ) (fun (c : Dev nD) _ => bigSep_sep' Finset.univ
      (fun i : Option (Fin 4 × Fin 4) => (atPos ER (kcell (c, i)) 0 ∅ 0 : sProp 𝕄)) (fun i => reached ER (kcell (c, i)) 0)),
    bigSep_sep', ← bigSep_univ_prod (fun ci : Dev nD × Option (Fin 4 × Fin 4) => (reached ER (kcell ci) 0 : sProp 𝕄))]
  iintro ⟨HI, ⟨Hat, Hr⟩, Htok⟩
  ihave HK := (BI.bigSep_exists_pi Finset.univ (fun (ci : Dev nD × Option (Fin 4 × Fin 4)) (κ : ℕ) => (cellInv ER (rd m) κ (kcell ci) : sProp 𝕄))) $$ HI
  icases HK with ⟨%K, HI⟩
  ihave HR : records m K $$ [HI Hr]
  · unfold records; rw [bigSep_sep']
    isplitl [HI] <;> iassumption
  ihave HL := (deal (F := F)) $$ [Hat Htok]
  · isplitl [Hat] <;> iassumption
  ihave HR' := (BI.bigSep_of_persistent (Finset.univ : Finset (Dev nD)) (records m K)) $$ HR
  iapply (show iprop((bigSep Finset.univ fun _ : Dev nD => records m K) ∗ bigSep Finset.univ fun c : Dev nD => linear c)
      ⊢ (bigSep Finset.univ (G' m) : sProp 𝕄) from by
    rw [← bigSep_sep']
    refine bigSep_mono fun c _ => ?_
    show iprop(records m K ∗ linear c) ⊢ iprop(∃ K, records m K ∗ linear c)
    iintro H
    iexists K; iexact H)
  isplitl [HR'] <;> iassumption

/-- The set-up of all devices' cells at once. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem due_append (l l' : List (GSem nD τ sig × ℕ)) : due (l ++ l') = due l + due l' := by
  induction l with
  | nil => exact (zero_add _).symm
  | cons p l ih => show due (l ++ l') + _ = due l + _ + _; rw [ih, add_right_comm]

/-- A list owes nothing to a cell that is not on it. -/
theorem due_off {l : List (GSem nD τ sig × ℕ)} {g : GSem nD τ sig} (h : ∀ p ∈ l, p.1 ≠ g) : due l g () = 0 :=
  Nat.eq_zero_of_not_pos fun hp => by obtain ⟨p, hp, e⟩ := due_pos hp; exact h p hp e

/-- What a list of arrivals at one device's cells owes a transfer cell. -/
theorem due_arrivals (e c : Dev nD) (j j' k : Fin 4) (l : List (Fin 4)) (hl : l.Nodup) :
    due (l.map fun k' => (xCell e j k', N)) (xCell c j' k) () = if (e = c ∧ j = j') ∧ k ∈ l then N else 0 := by
  have hcell : ∀ k', xCell c j' k = xCell e j k' → (e = c ∧ j = j') ∧ k = k' := fun k' h => by
    have h1 : c = e := congrArg (fun g : GSem nD τ sig => g.1.1) h
    obtain ⟨h2, h3⟩ := dsem_inj (SemLoc.dma.inj (congrArg Prod.snd h))
    exact ⟨⟨h1.symm, h2.symm⟩, h3⟩
  induction l with
  | nil => rw [if_neg (fun h => by cases h.2)]; rfl
  | cons a l ih =>
    obtain ⟨ha, hl⟩ := List.nodup_cons.mp hl
    show due (l.map fun k' => (xCell e j k', N)) (xCell c j' k) () + tallyAt (xCell e j a) () N (xCell c j' k) () = _
    rw [ih hl, tallyAt_apply]
    by_cases h : xCell c j' k = xCell e j a
    · obtain ⟨hh, rfl⟩ := hcell a h
      rw [if_neg (fun h => ha h.2), if_pos ⟨h, rfl⟩, if_pos ⟨hh, List.mem_cons_self⟩, zero_add]
    · rw [if_neg (c := xCell c j' k = xCell e j a ∧ () = ()) (fun h' => h h'.1), add_zero]
      refine if_congr (and_congr_right fun hh => ?_) rfl rfl
      rw [List.mem_cons]
      refine ⟨Or.inr, fun hk => hk.resolve_left fun hk => h ?_⟩
      rw [hk, hh.1, hh.2]

/-- What device `d` owes device `c`'s barrier cell: a unit if it is one neighbour, a unit if it is the other; -/
theorem owed_bar (d c : Dev nD) : O₀ d (barCell c) () = (if d = yp c then 1 else 0) + (if d = xp c then 1 else 0) := by
  have h0 : due (dueX d pieces ++ dueY d pieces) (barCell c) () = 0 := due_off fun p hp h => by
    have := dueXY_above d p hp
    rw [h] at this
    exact Nat.lt_irrefl 1 this.2
  have hb : ∀ e : Dev nD, barCell c = barCell e → c = e := fun e h => congrArg (fun g : GSem nD τ sig => g.1.1) h
  show due (dueX d pieces ++ dueY d pieces) (barCell c) () + tallyAt (barCell (yp d)) () 1 (barCell c) () + tallyAt (barCell (xp d)) () 1 (barCell c) () = _
  rw [h0, zero_add, tallyAt_apply, tallyAt_apply]
  congr 1
  · refine if_congr ⟨fun h => by rw [hb _ h.1, yp_yp], fun h => ?_⟩ rfl rfl
    rw [h, yp_yp]; exact ⟨rfl, rfl⟩
  · refine if_congr ⟨fun h => by rw [hb _ h.1, xp_xp], fun h => ?_⟩ rfl rfl
    rw [h, xp_xp]; exact ⟨rfl, rfl⟩

/-- a transfer's count to an arrival cell of each neighbour, and nothing to any other transfer cell. -/
theorem owed_x (d c : Dev nD) (j k : Fin 4) :
    O₀ d (xCell c j k) () = (if d = xp c then (if j = 1 then N else 0) else 0) + (if d = yp c then (if j = 3 then N else 0) else 0) := by
  have hk : k ∈ pieces := by revert k; decide
  show due (dueX d pieces ++ dueY d pieces) (xCell c j k) () + tallyAt (barCell (yp d)) () 1 (xCell c j k) ()
    + tallyAt (barCell (xp d)) () 1 (xCell c j k) () = _
  rw [tallyAt_ne_cell (fun h => by cases congrArg Prod.snd h), tallyAt_ne_cell (fun h => by cases congrArg Prod.snd h), Finsupp.zero_apply, add_zero,
    add_zero, due_append, Pi.add_apply, Finsupp.add_apply]
  unfold dueX dueY
  rw [due_arrivals _ _ _ _ _ _ (by decide), due_arrivals _ _ _ _ _ _ (by decide), ← ite_and, ← ite_and]
  congr 1
  · refine if_congr ⟨fun h => ⟨by rw [← h.1.1, xp_xp], h.1.2.symm⟩, fun h => ⟨⟨by rw [h.1, xp_xp], h.2.symm⟩, hk⟩⟩ rfl rfl
  · refine if_congr ⟨fun h => ⟨by rw [← h.1.1, yp_yp], h.1.2.symm⟩, fun h => ⟨⟨by rw [h.1, yp_yp], h.2.symm⟩, hk⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]

theorem launch_x (c : Dev nD) (j k : Fin 4) :
    tallyOn (xCell c j k) (launchCredit (Pipeline.owing O₀) 0 (xCell c j k))
      = (tallyAt (xCell c j k) () ((if j = 1 then N else 0) + (if j = 3 then N else 0)) : CellTallies nD τ sig Unit) := by
  unfold tallyAt; refine congrArg _ (Finsupp.ext fun u => ?_); cases u
  rw [Pipeline.launchCredit_owing, Finsupp.single_eq_same, Finset.sum_congr rfl fun d _ => owed_x d c j k, Finset.sum_add_distrib,
    Finset.sum_ite_eq' Finset.univ (xp c) fun _ => if j = 1 then N else 0, Finset.sum_ite_eq' Finset.univ (yp c) fun _ => if j = 3 then N else 0,
    if_pos (Finset.mem_univ _), if_pos (Finset.mem_univ _)]

/-- A device's launch credit covers its barrier wait and its arrivals. -/
theorem creds (c : Dev nD) :
    (Pipeline.launchCred O₀ c : sProp 𝕄) ⊢ iprop(cred (tallyAt (barCell c) () 2) ∗ bigSep Finset.univ fun k => credAt c k) := by
  unfold Pipeline.launchCred
  refine (bigSep_subset (Finset.subset_univ (Finset.univ.map ⟨csem, csem_inj⟩))).trans ?_
  rw [bigSep_map, bigSep_cells]
  show iprop(cred (tallyOn (barCell c) (launchCredit (Pipeline.owing O₀) 0 (barCell c)))
    ∗ bigSep Finset.univ fun k => iprop(cred (tallyOn (xCell c 0 k) (launchCredit (Pipeline.owing O₀) 0 (xCell c 0 k)))
      ∗ cred (tallyOn (xCell c 1 k) (launchCredit (Pipeline.owing O₀) 0 (xCell c 1 k)))
      ∗ cred (tallyOn (xCell c 2 k) (launchCredit (Pipeline.owing O₀) 0 (xCell c 2 k)))
      ∗ cred (tallyOn (xCell c 3 k) (launchCredit (Pipeline.owing O₀) 0 (xCell c 3 k))))) ⊢ _
  rw [launch_bar]
  refine sep_mono_right (bigSep_mono fun k _ => ?_)
  rw [launch_x, launch_x, launch_x, launch_x]
  show iprop(cred (tallyAt (xCell c 0 k) () 0) ∗ cred (tallyAt (xCell c 1 k) () N) ∗ cred (tallyAt (xCell c 2 k) () 0) ∗ cred (tallyAt (xCell c 3 k) () (0 + N)))
    ⊢ iprop(cred (tallyAt (xCell c 1 k) () N) ∗ cred (tallyAt (xCell c 3 k) () N))
  rw [Nat.zero_add]
  iintro ⟨-, H1, -, H3⟩
  isplitl [H1]; · iexact H1
  iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hz, HzB⟩
  isplitl [HzB]; · iexact HzB
  isplitl [Hz] <;> iassumption

/-- The staging waits are below everything a device owes. -/
theorem waits (c : Dev nD) : (levAts L lv : sProp 𝕄) ⊢ Pipeline.cellsWaits cfgs (dats m ρ) () 0 c :=
  Pipeline.cellsWaits_intro cfgs (dats m ρ) () 0 c fun w s t => by
    have h0 : lvS (.dma ((cfg0.win w).sem s)) = 0 := by fin_cases w <;> fin_cases s <;> decide
    rcases t with ⟨_ | _, ht⟩
    · refine mayWait_due c _ (dueAll c) fun p hp => ?_
      rw [show lvS (.dma (((cfgs 0).win w).sem s)) = 0 from h0]
      rcases List.mem_cons.mp hp with rfl | hp
      · exact ⟨rfl, Nat.one_pos⟩
      rcases List.mem_cons.mp hp with rfl | hp
      · exact ⟨rfl, Nat.one_pos⟩
      exact ⟨(dueXY_above c p hp).1, (Nat.zero_le _).trans_lt (dueXY_above c p hp).2⟩
    · exact mayWait_due c _ [] fun p hp => by cases hp

theorem share_eq (c : Dev nD) (w : Fin cfg0.W) : (dats m ρ 0 c).share w = fullShare := by unfold Pipeline.Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every counter at zero: every weakly fair run of the four devices ends, and
    in every final state each device's arrays hold the computed contents and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array after the run holds what it held. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.TwoStep

end
-- ==== Proof.Value.lean ====
/-
  What the result buffer ends holding, and that it is the reference's sum.

  The one output window covers its whole array, so the array ends at what the body left staged: `outAt`.
  Over the extended reals `outAt` is, element by element, the two halves of the whole array added in one order or
  the other, according to the device's first coordinate; the reference adds the same two elements.
-/
module

public import proofs.«01_k».proof.Proof.Launch
public import proofs.«01_k».proof.Proof.Gen.ReferenceIdeal.Read
public import Idealize.ShloMosaic.Lib.Pipeline.Value

@[expose] public section

noncomputable section

namespace Cert.TwoStep

open Cert.KernelIdeal Cert.KernelIdeal.Gen
open Idealize.ShloMosaic
open Idealize.ShloMosaic.TcCoe
open Idealize.SL.Sem

section Windows

variable {F : FTy → Type} [FloatOps F]
variable (m : (ℓ : Loc nD τ sig) → Buf (Elt F) ℓ) (ρ : Dev nD → PrngReg)

/-- The staged block of a device is the device's argument buffer. -/
theorem xAt_apply (c : Dev nD) (j : S256x256.Idx) : xAt m c j = m ((c : Thread nD τ).loc main_arg0) j := by
  unfold xAt
  show m ((c : Thread nD τ).loc main_arg0) ((win0_0.blk (0 : Fin 1)).view.emb j) = _
  congr 1
  funext a
  fin_cases a
  · exact Fin.ext (by show 0 * 256 + 1 * (j 0).val = (j 0).val; omega)
  · exact Fin.ext (by show 0 * 256 + 1 * (j 1).val = (j 1).val; omega)

/-- An element of the output window's block is the same element of the result array. -/
theorem out_emb (i : S256x512.Idx) : (win0_1.blk (0 : Fin 1)).view.emb i = i := by
  funext a
  fin_cases a
  · exact Fin.ext (by show 0 * 256 + 1 * (i 0).val = (i 0).val; omega)
  · exact Fin.ext (by show 0 * 512 + 1 * (i 1).val = (i 1).val; omega)

/-- The result array of device `c` ends at `outAt m c`. -/
theorem finalA_out (c : Dev nD) : finalA m ρ c (1 : Fin 2) = outAt m c := by
  refine (dats m ρ 0 c).arrAt_eq_of_cover (1 : Fin 2) (outAt m c) (fun t _ => ?_) fun i => ⟨t0_0, flush0_1 _, ?_⟩
  · rw [fin_N0 t]
    funext i
    exact congrArg (outAt m c) (out_emb i).symm
  · have h := View.emb_mem_set (win0_1.blk (0 : Fin 1)).view i
    rw [out_emb] at h
    exact h

end Windows

/-! ## Over the extended reals -/

/-- The mesh coordinates of a device, as the layout of the argument names them. -/
theorem mesh_row (d : Dev nD) : ((Layout.meshBlock [2, 2] ![[0], [1]] d) (0 : Fin 2)).val = d.val / 2 := by
  revert d; decide
theorem mesh_col (d : Dev nD) : ((Layout.meshBlock [2, 2] ![[0], [1]] d) (1 : Fin 2)).val = d.val % 2 := by
  revert d; decide

/-- The device that makes column half `h` for `c`'s row has coordinates (c / 2, h), and the device it adds the
    block of has coordinates (1 - c / 2, h). -/
theorem rowDev_coords (c : Dev nD) (h : Fin 2) :
    (rowDev c h).val / 2 = c.val / 2 ∧ (rowDev c h).val % 2 = h.val
      ∧ (xp (rowDev c h)).val / 2 = 1 - c.val / 2 ∧ (xp (rowDev c h)).val % 2 = h.val := by
  revert c h; decide

/-- Element `i` of half `a` of the whole array, as the reference reads it. -/
abbrev refIdx (i : S256x512.Idx) (a : Fin 2) : Cert.ReferenceIdeal.S512x512.Idx :=
  Cert.ReferenceIdeal.Read.idx_main_v0 (Cert.ReferenceIdeal.Read.idx_main_v1 i a)

/-- A device whose second coordinate is `i`'s column half holds, at `i`'s place in that half, the element `i`
    of the half of the whole array that its first coordinate names. -/
theorem xAt_block (m : (ℓ : Loc nD τ sig) → Buf (Elt Ideal) ℓ)
    (x0 : (⟨Cert.ReferenceIdeal.S512x512, .f32⟩ : BufTy).Contents (Elt Ideal))
    (hx : ∀ c : Dev nD, m ((c : Thread nD τ).loc main_arg0)
      = Layout.blockN ⟨2, ![256, 256]⟩ ⟨2, ![512, 512]⟩ (Layout.meshBlock [2, 2] ![[0], [1]] c) x0)
    (i : S256x512.Idx) (d : Dev nD) (a : Fin 2) (ha : d.val / 2 = a.val) (hd : d.val % 2 = (halfOf i).val) :
    xAt m d (inHalf i) = x0 (refIdx i a) := by
  rw [xAt_apply, hx d, Layout.blockN_apply]
  refine congrArg x0 (funext fun b => Fin.ext ?_)
  have h0 : (i 0).val < 256 := (i 0).isLt
  have h1 : (i 1).val < 512 := (i 1).isLt
  have h2 : a.val < 2 := a.isLt
  have hd' : d.val % 2 = (i 1).val / 256 := hd
  fin_cases b
  · show ((Layout.meshBlock [2, 2] ![[0], [1]] d) (0 : Fin 2)).val * 256 + (i 0).val
      = ((a.val * 256 + (i 0).val) * 512 + (i 1).val) / 512
    rw [mesh_row]; omega
  · show ((Layout.meshBlock [2, 2] ![[0], [1]] d) (1 : Fin 2)).val * 256 + (i 1).val % 256
      = ((a.val * 256 + (i 0).val) * 512 + (i 1).val) % 512
    rw [mesh_col]; omega

/-- The reference's result at `i`: the sum of the two halves' elements. -/
theorem ref_apply (x0 : (⟨Cert.ReferenceIdeal.S512x512, .f32⟩ : BufTy).Contents (Elt Ideal)) (i : S256x512.Idx) :
    Cert.ReferenceIdeal.Read.val_main_v1 (F := Ideal) x0 i = x0 (refIdx i 0) + x0 (refIdx i 1) := by
  rw [Cert.ReferenceIdeal.Read.val_main_v1_apply, Fin.sum_univ_two, Cert.ReferenceIdeal.Read.val_main_v0_apply,
    Cert.ReferenceIdeal.Read.val_main_v0_apply, Cert.ReferenceIdeal.Read.val_main_cst_apply]
  show Ideal.ofBits .f32 0x00000000#32 + _ = _
  rw [Ideal.ofBits_zero_f32, zero_add]

/-- Every device's result is the reference's. -/
theorem outAt_eq (m : (ℓ : Loc nD τ sig) → Buf (Elt Ideal) ℓ)
    (x0 : (⟨Cert.ReferenceIdeal.S512x512, .f32⟩ : BufTy).Contents (Elt Ideal))
    (hx : ∀ c : Dev nD, m ((c : Thread nD τ).loc main_arg0)
      = Layout.blockN ⟨2, ![256, 256]⟩ ⟨2, ![512, 512]⟩ (Layout.meshBlock [2, 2] ![[0], [1]] c) x0)
    (c : Dev nD) : outAt m c = Cert.ReferenceIdeal.Read.val_main_v1 (F := Ideal) x0 := by
  funext i
  obtain ⟨hr, hc, hr', hc'⟩ := rowDev_coords c (halfOf i)
  have hc4 : c.val < 4 := c.isLt
  rw [ref_apply]
  show @HAdd.hAdd EReal EReal EReal _ (xAt m (rowDev c (halfOf i)) (inHalf i)) (xAt m (xp (rowDev c (halfOf i))) (inHalf i)) = _
  rcases (by omega : c.val / 2 = 0 ∨ c.val / 2 = 1) with h | h
  · rw [xAt_block m x0 hx i _ 0 (hr.trans h) hc, xAt_block m x0 hx i _ 1 (by rw [hr', h]; rfl) hc']
  · rw [xAt_block m x0 hx i _ 1 (hr.trans h) hc, xAt_block m x0 hx i _ 0 (by rw [hr', h]; rfl) hc']
    exact add_comm (G := EReal) _ _

end Cert.TwoStep

end
-- ==== Proof.lean ====
/-
  The five claims from the run of the kernel (Proof/Launch.lean), the value of its result (Proof/Value.lean) and the
  generated run of the reference.  The kernel and its idealization have the same text, so one run, stated for any
  float values, gives both of their frames.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent

@[expose] public section

noncomputable section

namespace Cert.Proof

open Idealize.ShloMosaic Idealize.SL.Sem Cert.TwoStep

/-- For any float values the kernel runs, leaves its argument as it was, and ends with every counter at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c (0 : Fin 2)).trans (finalA_in m ρ c), h.2⟩)
    (run_main m ρ)

/-- The kernel's body table and its idealization's are the same. -/
theorem bodies_eq : Cert.Kernel.defs₀ (F := Bits) = Cert.KernelIdeal.defs₀ (F := Bits) := by
  refine congrArg Defs.onTc (funext fun l => funext fun x => ?_)
  match l, x with
  | ⟨0, _⟩, (_, _) => rfl

/-- So are the tables with the call's pipeline added. -/
theorem defs_eq : Cert.Kernel.defs (F := Bits) = Cert.KernelIdeal.defs (F := Bits) :=
  congrArg (Pipeline.defs _) bodies_eq

/-- The kernel's frame: that run on bits. -/
theorem frame_kernel : Cert.quiescent_Kernel := by
  intro m ρ _
  rw [defs_eq]
  exact frame_any (F := Bits) m ρ

/-- Its idealization's: the same run over the extended reals. -/
theorem frame_ideal : Cert.quiescent_KernelIdeal := fun m ρ _ => frame_any (F := Ideal) m ρ

/-- The reference runs and leaves its argument as it was; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's result. -/
theorem value : Cert.algebraic_KernelIdeal_ReferenceIdeal := fun m ρ m' ρ' _ hx =>
  ⟨_, (θ_run Cert.KernelIdeal.defs _ _).mono
      (fun _ h c => ⟨((h.1 c (1 : Fin 2)).trans (finalA_out m ρ c)).trans (outAt_eq m _ hx c),
        (h.1 c (0 : Fin 2)).trans (finalA_in m ρ c)⟩)
      (run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
